-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  IdealRules.named_const.Statement Cert.Kernel2Ideal.κ "qk_scale" .f32 0x3E38AA3B#32 (((Real.log 2)⁻¹ * (Real.sqrt 64)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_v52) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S16x2048x1536 : Shape := ⟨3, ![16, 2048, 1536]⟩
abbrev S16x2048x768 : Shape := ⟨3, ![16, 2048, 768]⟩
abbrev S8x192 : Shape := ⟨2, ![8, 192]⟩
abbrev S8 : Shape := ⟨1, ![8]⟩
abbrev S1024x2816 : Shape := ⟨2, ![1024, 2816]⟩
abbrev S2816x1024 : Shape := ⟨2, ![2816, 1024]⟩
abbrev S_ : Shape := ⟨0, ![]⟩
abbrev S16x2048x512 : Shape := ⟨3, ![16, 2048, 512]⟩
abbrev S16x2048x1024 : Shape := ⟨3, ![16, 2048, 1024]⟩
abbrev S16x2048x256 : Shape := ⟨3, ![16, 2048, 256]⟩
abbrev S512 : Shape := ⟨1, ![512]⟩
abbrev S3 : Shape := ⟨1, ![3]⟩
abbrev S3x1 : Shape := ⟨2, ![3, 1]⟩
abbrev S1x512 : Shape := ⟨2, ![1, 512]⟩
abbrev S3x512 : Shape := ⟨2, ![3, 512]⟩
abbrev S3x512x1 : Shape := ⟨3, ![3, 512, 1]⟩
abbrev S8x3x512 : Shape := ⟨3, ![8, 3, 512]⟩
abbrev S8x3x1x512 : Shape := ⟨4, ![8, 3, 1, 512]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8x1x1 : Shape := ⟨3, ![8, 1, 1]⟩
abbrev S1x128x256 : Shape := ⟨3, ![1, 128, 256]⟩
abbrev S8x128x256 : Shape := ⟨3, ![8, 128, 256]⟩
abbrev S2x512x256 : Shape := ⟨3, ![2, 512, 256]⟩
abbrev S1x2048x1536 : Shape := ⟨3, ![1, 2048, 1536]⟩
abbrev S1x2048x768 : Shape := ⟨3, ![1, 2048, 768]⟩
abbrev S64x2816 : Shape := ⟨2, ![64, 2816]⟩
abbrev S176x1024 : Shape := ⟨2, ![176, 1024]⟩
abbrev S1x2048x512 : Shape := ⟨3, ![1, 2048, 512]⟩
abbrev S4x3x512x256 : Shape := ⟨4, ![4, 3, 512, 256]⟩
abbrev S2x2048x256 : Shape := ⟨3, ![2, 2048, 256]⟩
abbrev S2x2048x128 : Shape := ⟨3, ![2, 2048, 128]⟩
abbrev S2x3x512x256 : Shape := ⟨4, ![2, 3, 512, 256]⟩
abbrev S1x128 : Shape := ⟨2, ![1, 128]⟩
abbrev S2048x128 : Shape := ⟨2, ![2048, 128]⟩
abbrev S256x256 : Shape := ⟨2, ![256, 256]⟩
abbrev S1x1x1x512 : Shape := ⟨4, ![1, 1, 1, 512]⟩
abbrev S256x512 : Shape := ⟨2, ![256, 512]⟩
abbrev S1x1x256x256 : Shape := ⟨4, ![1, 1, 256, 256]⟩
abbrev S1x2048x128 : Shape := ⟨3, ![1, 2048, 128]⟩
abbrev S2048x64 : Shape := ⟨2, ![2048, 64]⟩
abbrev S1x2048x256 : Shape := ⟨3, ![1, 2048, 256]⟩
abbrev S2048x256 : Shape := ⟨2, ![2048, 256]⟩
abbrev S1 : Shape := ⟨1, ![1]⟩
abbrev S128x128 : Shape := ⟨2, ![128, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S1x1x512x256 : Shape := ⟨4, ![1, 1, 512, 256]⟩
abbrev S512x1 : Shape := ⟨2, ![512, 1]⟩
abbrev S1x128x128 : Shape := ⟨3, ![1, 128, 128]⟩
abbrev S1x512x128 : Shape := ⟨3, ![1, 512, 128]⟩
abbrev S1x1x512x128 : Shape := ⟨4, ![1, 1, 512, 128]⟩
abbrev S1x512x256 : Shape := ⟨3, ![1, 512, 256]⟩
abbrev S1x256x256 : Shape := ⟨3, ![1, 256, 256]⟩

abbrev nBuf : Space → Nat
  | .hbm => 161
  | .vmem => 26
  | .smem => 1
  | _ => 0

abbrev hbmTy0_0 (i : Nat) : BufTy := match i % 128 with
  | 0 => ⟨S16x2048x1536, .f32⟩
  | 1 => ⟨S16x2048x768, .f32⟩
  | 2 => ⟨S8x192, .f32⟩
  | 3 => ⟨S8, .f32⟩
  | 4 => ⟨S1024x2816, .f32⟩
  | 5 => ⟨S1024x2816, .f32⟩
  | 6 => ⟨S2816x1024, .f32⟩
  | 7 => ⟨S8, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S16x2048x512, .f32⟩
  | 16 => ⟨S16x2048x512, .f32⟩
  | 17 => ⟨S16x2048x512, .f32⟩
  | 18 => ⟨S16x2048x1024, .f32⟩
  | 19 => ⟨S16x2048x1536, .f32⟩
  | 20 => ⟨S16x2048x1536, .bf16⟩
  | 21 => ⟨S16x2048x512, .f32⟩
  | 22 => ⟨S16x2048x512, .f32⟩
  | 23 => ⟨S16x2048x512, .f32⟩
  | 24 => ⟨S16x2048x256, .f32⟩
  | 25 => ⟨S16x2048x768, .f32⟩
  | 26 => ⟨S16x2048x768, .bf16⟩
  | 27 => ⟨S_, .f32⟩
  | 28 => ⟨S_, .f32⟩
  | 29 => ⟨S_, .f32⟩
  | 30 => ⟨S_, .f32⟩
  | 31 => ⟨S8x192, .f32⟩
  | 32 => ⟨S8x192, .f32⟩
  | 33 => ⟨S512, .i32⟩
  | 34 => ⟨S_, .i32⟩
  | 35 => ⟨S512, .i32⟩
  | 36 => ⟨S512, .i1⟩
  | 37 => ⟨S_, .i32⟩
  | 38 => ⟨S512, .i32⟩
  | 39 => ⟨S512, .i32⟩
  | 40 => ⟨S512, .i32⟩
  | 41 => ⟨S3, .i32⟩
  | 42 => ⟨S3x1, .i32⟩
  | 43 => ⟨S_, .i32⟩
  | 44 => ⟨S3x1, .i32⟩
  | 45 => ⟨S3x1, .i32⟩
  | 46 => ⟨S1x512, .i32⟩
  | 47 => ⟨S3x512, .i32⟩
  | 48 => ⟨S3x512, .i32⟩
  | 49 => ⟨S3x512, .i32⟩
  | 50 => ⟨S_, .i32⟩
  | 51 => ⟨S_, .i32⟩
  | 52 => ⟨S_, .i32⟩
  | 53 => ⟨S3x512, .i32⟩
  | 54 => ⟨S3x512, .i32⟩
  | 55 => ⟨S_, .i32⟩
  | 56 => ⟨S3x512, .i32⟩
  | 57 => ⟨S3x512, .i32⟩
  | 58 => ⟨S_, .i32⟩
  | 59 => ⟨S3x512, .i32⟩
  | 60 => ⟨S3x512, .i32⟩
  | 61 => ⟨S_, .i32⟩
  | 62 => ⟨S3x512, .i32⟩
  | 63 => ⟨S3x512, .i1⟩
  | 64 => ⟨S_, .i32⟩
  | 65 => ⟨S3x512, .i32⟩
  | 66 => ⟨S3x512, .i32⟩
  | 67 => ⟨S3x512, .i32⟩
  | 68 => ⟨S3x512x1, .i32⟩
  | 69 => ⟨S8x3x512, .f32⟩
  | 70 => ⟨S8x3x1x512, .f32⟩
  | 71 => ⟨S_, .f32⟩
  | 72 => ⟨S_, .f32⟩
  | 73 => ⟨S_, .f32⟩
  | 74 => ⟨S_, .f32⟩
  | 75 => ⟨S8, .f32⟩
  | 76 => ⟨S8, .f32⟩
  | 77 => ⟨S128, .i32⟩
  | 78 => ⟨S128x1, .i32⟩
  | 79 => ⟨S256, .i32⟩
  | 80 => ⟨S1x256, .i32⟩
  | 81 => ⟨S128x256, .i32⟩
  | 82 => ⟨S128x256, .i32⟩
  | 83 => ⟨S128x256, .i32⟩
  | 84 => ⟨S_, .i32⟩
  | 85 => ⟨S128x256, .i32⟩
  | 86 => ⟨S128x256, .i32⟩
  | 87 => ⟨S_, .i32⟩
  | 88 => ⟨S_, .i32⟩
  | 89 => ⟨S128x1, .i32⟩
  | 90 => ⟨S128x1, .i32⟩
  | 91 => ⟨S128x1, .i32⟩
  | 92 => ⟨S_, .i32⟩
  | 93 => ⟨S128x1, .i32⟩
  | 94 => ⟨S128x1, .i1⟩
  | 95 => ⟨S128x1, .i32⟩
  | 96 => ⟨S128x1, .i32⟩
  | 97 => ⟨S_, .i32⟩
  | 98 => ⟨S128x1, .i32⟩
  | 99 => ⟨S128x1, .i1⟩
  | 100 => ⟨S128x1, .i1⟩
  | 101 => ⟨S_, .i32⟩
  | 102 => ⟨S128x1, .i32⟩
  | 103 => ⟨S128x1, .i32⟩
  | 104 => ⟨S128x1, .i32⟩
  | 105 => ⟨S_, .i32⟩
  | 106 => ⟨S_, .i32⟩
  | 107 => ⟨S1x256, .i32⟩
  | 108 => ⟨S1x256, .i32⟩
  | 109 => ⟨S1x256, .i32⟩
  | 110 => ⟨S_, .i32⟩
  | 111 => ⟨S1x256, .i32⟩
  | 112 => ⟨S1x256, .i1⟩
  | 113 => ⟨S1x256, .i32⟩
  | 114 => ⟨S1x256, .i32⟩
  | 115 => ⟨S_, .i32⟩
  | 116 => ⟨S1x256, .i32⟩
  | 117 => ⟨S1x256, .i1⟩
  | 118 => ⟨S1x256, .i1⟩
  | 119 => ⟨S_, .i32⟩
  | 120 => ⟨S1x256, .i32⟩
  | 121 => ⟨S1x256, .i32⟩
  | 122 => ⟨S1x256, .i32⟩
  | 123 => ⟨S128x256, .i32⟩
  | 124 => ⟨S128x256, .i32⟩
  | 125 => ⟨S128x256, .i32⟩
  | 126 => ⟨S_, .i32⟩
  | 127 => ⟨S128x256, .i32⟩
  | _ => ⟨S16x2048x1536, .f32⟩

abbrev hbmTy0_1 (i : Nat) : BufTy := match i % 128 with
  | 0 => ⟨S128x256, .i32⟩
  | 1 => ⟨S_, .i32⟩
  | 2 => ⟨S128x256, .i32⟩
  | 3 => ⟨S128x256, .i1⟩
  | 4 => ⟨S_, .i32⟩
  | 5 => ⟨S128x256, .i32⟩
  | 6 => ⟨S128x256, .i1⟩
  | 7 => ⟨S128x256, .i1⟩
  | 8 => ⟨S128x256, .i32⟩
  | 9 => ⟨S128x256, .f32⟩
  | 10 => ⟨S8x1x1, .f32⟩
  | 11 => ⟨S8x1x1, .f32⟩
  | 12 => ⟨S1x128x256, .f32⟩
  | 13 => ⟨S8x128x256, .f32⟩
  | 14 => ⟨S8x128x256, .f32⟩
  | 15 => ⟨S8x128x256, .f32⟩
  | 16 => ⟨S_, .f32⟩
  | 17 => ⟨S_, .f32⟩
  | 18 => ⟨S_, .f32⟩
  | 19 => ⟨S_, .f32⟩
  | 20 => ⟨S8x128x256, .f32⟩
  | 21 => ⟨S8x128x256, .f32⟩
  | 22 => ⟨S_, .f32⟩
  | 23 => ⟨S_, .f32⟩
  | 24 => ⟨S8x128x256, .i1⟩
  | 25 => ⟨S8x128x256, .f32⟩
  | 26 => ⟨S8x128x256, .f32⟩
  | 27 => ⟨S2x512x256, .f32⟩
  | 28 => ⟨S16x2048x512, .bf16⟩
  | 29 => ⟨S16x2048x512, .bf16⟩
  | 30 => ⟨S1024x2816, .bf16⟩
  | 31 => ⟨S1024x2816, .bf16⟩
  | 32 => ⟨S2816x1024, .bf16⟩
  | _ => ⟨S16x2048x1536, .f32⟩

abbrev hbmTy (i : Nat) : BufTy := match i / 128 with
  | 0 => hbmTy0_0 i
  | 1 => hbmTy0_1 i
  | _ => ⟨S16x2048x1536, .f32⟩

abbrev bufTy : (tb : Table) → Fin (tcTables nBuf tb) → BufTy
  | .hbm, ⟨i, _⟩ => hbmTy i
  | .local _ .vmem, ⟨0, _⟩ => ⟨S1x2048x1536, .bf16⟩
  | .local _ .vmem, ⟨1, _⟩ => ⟨S1x2048x1536, .bf16⟩
  | .local _ .vmem, ⟨2, _⟩ => ⟨S1x2048x768, .bf16⟩
  | .local _ .vmem, ⟨3, _⟩ => ⟨S1x2048x768, .bf16⟩
  | .local _ .vmem, ⟨4, _⟩ => ⟨S8x3x1x512, .f32⟩
  | .local _ .vmem, ⟨5, _⟩ => ⟨S2x512x256, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S176x1024, .f32⟩
  | .local _ .vmem, ⟨11, _⟩ => ⟨S176x1024, .f32⟩
  | .local _ .vmem, ⟨12, _⟩ => ⟨S1x2048x512, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S64x2816, .bf16⟩
  | .local _ .vmem, ⟨17, _⟩ => ⟨S64x2816, .bf16⟩
  | .local _ .vmem, ⟨18, _⟩ => ⟨S64x2816, .bf16⟩
  | .local _ .vmem, ⟨19, _⟩ => ⟨S64x2816, .bf16⟩
  | .local _ .vmem, ⟨20, _⟩ => ⟨S176x1024, .bf16⟩
  | .local _ .vmem, ⟨21, _⟩ => ⟨S176x1024, .bf16⟩
  | .local _ .vmem, ⟨22, _⟩ => ⟨S4x3x512x256, .f32⟩
  | .local _ .vmem, ⟨23, _⟩ => ⟨S2x2048x256, .bf16⟩
  | .local _ .vmem, ⟨24, _⟩ => ⟨S2x2048x128, .bf16⟩
  | .local _ .vmem, ⟨25, _⟩ => ⟨S2x3x512x256, .f32⟩
  | .local _ .smem, ⟨0, _⟩ => ⟨S8, .f32⟩
  | _, _ => ⟨S16x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_cst_2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_c_8 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_c_11 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_12 : Ref sig .tc := ⟨.hbm, 71, rfl⟩
abbrev main_v45 : Ref sig .tc := ⟨.hbm, 72, rfl⟩
abbrev main_cst_13 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_14 : Ref sig .tc := ⟨.hbm, 84, rfl⟩
abbrev main_v56 : Ref sig .tc := ⟨.hbm, 85, rfl⟩
abbrev main_v57 : Ref sig .tc := ⟨.hbm, 86, rfl⟩
abbrev main_c_15 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_c : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_0 : Ref sig .tc := ⟨.hbm, 101, rfl⟩
abbrev main_call2_v12 : Ref sig .tc := ⟨.hbm, 102, rfl⟩
abbrev main_call2_v13 : Ref sig .tc := ⟨.hbm, 103, rfl⟩
abbrev main_v58 : Ref sig .tc := ⟨.hbm, 104, rfl⟩
abbrev main_c_16 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_c : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_c_0 : Ref sig .tc := ⟨.hbm, 119, rfl⟩
abbrev main_call3_v12 : Ref sig .tc := ⟨.hbm, 120, rfl⟩
abbrev main_call3_v13 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_c_17 : Ref sig .tc := ⟨.hbm, 126, rfl⟩
abbrev main_v63 : Ref sig .tc := ⟨.hbm, 127, rfl⟩
abbrev main_v64 : Ref sig .tc := ⟨.hbm, 128, rfl⟩
abbrev main_c_18 : Ref sig .tc := ⟨.hbm, 129, rfl⟩
abbrev main_v65 : Ref sig .tc := ⟨.hbm, 130, rfl⟩
abbrev main_v66 : Ref sig .tc := ⟨.hbm, 131, rfl⟩
abbrev main_c_19 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_cst_20 : Ref sig .tc := ⟨.hbm, 144, rfl⟩
abbrev main_v78 : Ref sig .tc := ⟨.hbm, 145, rfl⟩
abbrev main_cst_21 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_cst_22 : Ref sig .tc := ⟨.hbm, 150, rfl⟩
abbrev main_call4_v0 : Ref sig .tc := ⟨.hbm, 151, rfl⟩
abbrev main_call4_v1 : Ref sig .tc := ⟨.hbm, 152, rfl⟩
abbrev main_call4_v2 : Ref sig .tc := ⟨.hbm, 153, rfl⟩
abbrev main_v82 : Ref sig .tc := ⟨.hbm, 154, rfl⟩
abbrev main_v83 : Ref sig .tc := ⟨.hbm, 155, rfl⟩
abbrev main_v84_0 : Ref sig .tc := ⟨.hbm, 156, rfl⟩
abbrev main_v84_1 : Ref sig .tc := ⟨.hbm, 157, rfl⟩
abbrev main_v84_2 : Ref sig .tc := ⟨.hbm, 158, rfl⟩
abbrev main_v84_3 : Ref sig .tc := ⟨.hbm, 159, rfl⟩
abbrev main_v84_4 : Ref sig .tc := ⟨.hbm, 160, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x3x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16x2048x1536 : Shape := ⟨3, ![16, 2048, 1536]⟩
abbrev S16x2048x768 : Shape := ⟨3, ![16, 2048, 768]⟩
abbrev S8x192 : Shape := ⟨2, ![8, 192]⟩
abbrev S8 : Shape := ⟨1, ![8]⟩
abbrev S1024x2816 : Shape := ⟨2, ![1024, 2816]⟩
abbrev S2816x1024 : Shape := ⟨2, ![2816, 1024]⟩
abbrev S2048x2048 : Shape := ⟨2, ![2048, 2048]⟩
abbrev S_ : Shape := ⟨0, ![]⟩
abbrev S16x2048x512 : Shape := ⟨3, ![16, 2048, 512]⟩
abbrev S16x2048x8x64 : Shape := ⟨4, ![16, 2048, 8, 64]⟩
abbrev S2048x2048x1 : Shape := ⟨3, ![2048, 2048, 1]⟩
abbrev S8x2048x2048 : Shape := ⟨3, ![8, 2048, 2048]⟩
abbrev S16x8x2048x2048 : Shape := ⟨4, ![16, 8, 2048, 2048]⟩
abbrev S1x8x2048x2048 : Shape := ⟨4, ![1, 8, 2048, 2048]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩
abbrev S16x2048x2x4x64 : Shape := ⟨5, ![16, 2048, 2, 4, 64]⟩
abbrev S16x2048x128 : Shape := ⟨3, ![16, 2048, 128]⟩
abbrev S16x2048x2x64 : Shape := ⟨4, ![16, 2048, 2, 64]⟩
abbrev S2x4 : Shape := ⟨2, ![2, 4]⟩
abbrev S2x4x1x1 : Shape := ⟨4, ![2, 4, 1, 1]⟩
abbrev S1x1x2048x2048 : Shape := ⟨4, ![1, 1, 2048, 2048]⟩
abbrev S2x4x2048x2048 : Shape := ⟨4, ![2, 4, 2048, 2048]⟩
abbrev S16x2x2048x2048x4 : Shape := ⟨5, ![16, 2, 2048, 2048, 4]⟩
abbrev S16x2x4x2048x2048 : Shape := ⟨5, ![16, 2, 4, 2048, 2048]⟩
abbrev S1x2x4x2048x2048 : Shape := ⟨5, ![1, 2, 4, 2048, 2048]⟩
abbrev S1x2x4x1x1 : Shape := ⟨5, ![1, 2, 4, 1, 1]⟩
abbrev S16x2x4x2048x1 : Shape := ⟨5, ![16, 2, 4, 2048, 1]⟩
abbrev S16x2x4x2048x2049 : Shape := ⟨5, ![16, 2, 4, 2048, 2049]⟩
abbrev S16x2x4x2048 : Shape := ⟨4, ![16, 2, 4, 2048]⟩
abbrev S16x2x64x4x2048 : Shape := ⟨5, ![16, 2, 64, 4, 2048]⟩

abbrev nBuf : Space → Nat
  | .hbm => 176
  | .vmem => 0
  | .smem => 0
  | _ => 0

abbrev hbmTy0_0 (i : Nat) : BufTy := match i % 128 with
  | 0 => ⟨S16x2048x1536, .f32⟩
  | 1 => ⟨S16x2048x768, .f32⟩
  | 2 => ⟨S8x192, .f32⟩
  | 3 => ⟨S8, .f32⟩
  | 4 => ⟨S1024x2816, .f32⟩
  | 5 => ⟨S1024x2816, .f32⟩
  | 6 => ⟨S2816x1024, .f32⟩
  | 7 => ⟨S2048x2048, .i32⟩
  | 8 => ⟨S2048x2048, .i32⟩
  | 9 => ⟨S_, .i32⟩
  | 10 => ⟨S_, .i32⟩
  | 11 => ⟨S2048x2048, .i32⟩
  | 12 => ⟨S2048x2048, .i32⟩
  | 13 => ⟨S2048x2048, .i32⟩
  | 14 => ⟨S_, .i32⟩
  | 15 => ⟨S2048x2048, .i32⟩
  | 16 => ⟨S2048x2048, .i1⟩
  | 17 => ⟨S2048x2048, .i32⟩
  | 18 => ⟨S2048x2048, .i32⟩
  | 19 => ⟨S_, .i32⟩
  | 20 => ⟨S2048x2048, .i32⟩
  | 21 => ⟨S2048x2048, .i1⟩
  | 22 => ⟨S2048x2048, .i1⟩
  | 23 => ⟨S_, .i32⟩
  | 24 => ⟨S2048x2048, .i32⟩
  | 25 => ⟨S2048x2048, .i32⟩
  | 26 => ⟨S2048x2048, .i32⟩
  | 27 => ⟨S_, .i32⟩
  | 28 => ⟨S_, .i32⟩
  | 29 => ⟨S2048x2048, .i32⟩
  | 30 => ⟨S2048x2048, .i32⟩
  | 31 => ⟨S2048x2048, .i32⟩
  | 32 => ⟨S_, .i32⟩
  | 33 => ⟨S2048x2048, .i32⟩
  | 34 => ⟨S2048x2048, .i1⟩
  | 35 => ⟨S2048x2048, .i32⟩
  | 36 => ⟨S2048x2048, .i32⟩
  | 37 => ⟨S_, .i32⟩
  | 38 => ⟨S2048x2048, .i32⟩
  | 39 => ⟨S2048x2048, .i1⟩
  | 40 => ⟨S2048x2048, .i1⟩
  | 41 => ⟨S_, .i32⟩
  | 42 => ⟨S2048x2048, .i32⟩
  | 43 => ⟨S2048x2048, .i32⟩
  | 44 => ⟨S2048x2048, .i32⟩
  | 45 => ⟨S2048x2048, .i32⟩
  | 46 => ⟨S16x2048x512, .f32⟩
  | 47 => ⟨S16x2048x512, .f32⟩
  | 48 => ⟨S16x2048x512, .f32⟩
  | 49 => ⟨S16x2048x8x64, .f32⟩
  | 50 => ⟨S16x2048x8x64, .f32⟩
  | 51 => ⟨S16x2048x8x64, .f32⟩
  | 52 => ⟨S2048x2048, .i32⟩
  | 53 => ⟨S_, .i32⟩
  | 54 => ⟨S_, .i32⟩
  | 55 => ⟨S_, .i32⟩
  | 56 => ⟨S2048x2048, .i32⟩
  | 57 => ⟨S2048x2048, .i32⟩
  | 58 => ⟨S_, .i32⟩
  | 59 => ⟨S2048x2048, .i32⟩
  | 60 => ⟨S2048x2048, .i32⟩
  | 61 => ⟨S_, .i32⟩
  | 62 => ⟨S2048x2048, .i32⟩
  | 63 => ⟨S2048x2048, .i32⟩
  | 64 => ⟨S2048x2048x1, .i32⟩
  | 65 => ⟨S8x2048x2048, .f32⟩
  | 66 => ⟨S16x8x2048x2048, .f32⟩
  | 67 => ⟨S_, .f32⟩
  | 68 => ⟨S_, .f32⟩
  | 69 => ⟨S16x8x2048x2048, .f32⟩
  | 70 => ⟨S16x8x2048x2048, .f32⟩
  | 71 => ⟨S1x8x2048x2048, .f32⟩
  | 72 => ⟨S16x8x2048x2048, .f32⟩
  | 73 => ⟨S16x8x2048x2048, .f32⟩
  | 74 => ⟨S_, .i32⟩
  | 75 => ⟨S2048x2048, .i32⟩
  | 76 => ⟨S2048x2048, .i1⟩
  | 77 => ⟨S_, .i32⟩
  | 78 => ⟨S2048x2048, .i32⟩
  | 79 => ⟨S2048x2048, .i1⟩
  | 80 => ⟨S2048x2048, .i1⟩
  | 81 => ⟨S_, .f32⟩
  | 82 => ⟨S_, .f32⟩
  | 83 => ⟨S16x8x2048x2048, .i1⟩
  | 84 => ⟨S16x8x2048x2048, .f32⟩
  | 85 => ⟨S16x8x2048x2048, .f32⟩
  | 86 => ⟨S_, .f32⟩
  | 87 => ⟨S16x8x2048, .f32⟩
  | 88 => ⟨S_, .f32⟩
  | 89 => ⟨S16x8x2048, .f32⟩
  | 90 => ⟨S16x8x2048, .f32⟩
  | 91 => ⟨S16x8x2048x1, .f32⟩
  | 92 => ⟨S16x8x2048x2048, .f32⟩
  | 93 => ⟨S16x8x2048x2048, .f32⟩
  | 94 => ⟨S16x8x2048x2048, .f32⟩
  | 95 => ⟨S_, .f32⟩
  | 96 => ⟨S16x8x2048, .f32⟩
  | 97 => ⟨S16x8x2048x1, .f32⟩
  | 98 => ⟨S16x8x2048x2048, .f32⟩
  | 99 => ⟨S16x8x2048x2048, .f32⟩
  | 100 => ⟨S16x8x64x2048, .f32⟩
  | 101 => ⟨S16x2048x8x64, .f32⟩
  | 102 => ⟨S16x2048x512, .f32⟩
  | 103 => ⟨S16x2048x512, .f32⟩
  | 104 => ⟨S16x2048x8x64, .f32⟩
  | 105 => ⟨S16x2048x2x4x64, .f32⟩
  | 106 => ⟨S16x2048x128, .f32⟩
  | 107 => ⟨S16x2048x2x64, .f32⟩
  | 108 => ⟨S16x2048x128, .f32⟩
  | 109 => ⟨S16x2048x2x64, .f32⟩
  | 110 => ⟨S8, .i32⟩
  | 111 => ⟨S_, .i32⟩
  | 112 => ⟨S8, .i32⟩
  | 113 => ⟨S8, .i32⟩
  | 114 => ⟨S8, .f32⟩
  | 115 => ⟨S_, .f32⟩
  | 116 => ⟨S8, .f32⟩
  | 117 => ⟨S8, .f32⟩
  | 118 => ⟨S2x4, .f32⟩
  | 119 => ⟨S2x4x1x1, .f32⟩
  | 120 => ⟨S2x4x1x1, .f32⟩
  | 121 => ⟨S2048x2048, .i32⟩
  | 122 => ⟨S2048x2048, .i32⟩
  | 123 => ⟨S2048x2048, .f32⟩
  | 124 => ⟨S1x1x2048x2048, .f32⟩
  | 125 => ⟨S2x4x2048x2048, .f32⟩
  | 126 => ⟨S2x4x2048x2048, .f32⟩
  | 127 => ⟨S2x4x2048x2048, .f32⟩
  | _ => ⟨S16x2048x1536, .f32⟩

abbrev hbmTy0_1 (i : Nat) : BufTy := match i % 128 with
  | 0 => ⟨S16x2x2048x2048x4, .f32⟩
  | 1 => ⟨S16x2x4x2048x2048, .f32⟩
  | 2 => ⟨S_, .f32⟩
  | 3 => ⟨S_, .f32⟩
  | 4 => ⟨S16x2x4x2048x2048, .f32⟩
  | 5 => ⟨S16x2x4x2048x2048, .f32⟩
  | 6 => ⟨S1x2x4x2048x2048, .f32⟩
  | 7 => ⟨S16x2x4x2048x2048, .f32⟩
  | 8 => ⟨S16x2x4x2048x2048, .f32⟩
  | 9 => ⟨S_, .i32⟩
  | 10 => ⟨S2048x2048, .i32⟩
  | 11 => ⟨S2048x2048, .i1⟩
  | 12 => ⟨S_, .i32⟩
  | 13 => ⟨S2048x2048, .i32⟩
  | 14 => ⟨S2048x2048, .i1⟩
  | 15 => ⟨S2048x2048, .i1⟩
  | 16 => ⟨S_, .f32⟩
  | 17 => ⟨S_, .f32⟩
  | 18 => ⟨S16x2x4x2048x2048, .i1⟩
  | 19 => ⟨S16x2x4x2048x2048, .f32⟩
  | 20 => ⟨S16x2x4x2048x2048, .f32⟩
  | 21 => ⟨S2x4, .f32⟩
  | 22 => ⟨S1x2x4x1x1, .f32⟩
  | 23 => ⟨S16x2x4x2048x1, .f32⟩
  | 24 => ⟨S16x2x4x2048x2049, .f32⟩
  | 25 => ⟨S_, .f32⟩
  | 26 => ⟨S16x2x4x2048, .f32⟩
  | 27 => ⟨S_, .f32⟩
  | 28 => ⟨S16x2x4x2048, .f32⟩
  | 29 => ⟨S16x2x4x2048, .f32⟩
  | 30 => ⟨S16x2x4x2048x1, .f32⟩
  | 31 => ⟨S16x2x4x2048x2049, .f32⟩
  | 32 => ⟨S16x2x4x2048x2049, .f32⟩
  | 33 => ⟨S16x2x4x2048x2049, .f32⟩
  | 34 => ⟨S_, .f32⟩
  | 35 => ⟨S16x2x4x2048, .f32⟩
  | 36 => ⟨S16x2x4x2048x1, .f32⟩
  | 37 => ⟨S16x2x4x2048x2049, .f32⟩
  | 38 => ⟨S16x2x4x2048x2049, .f32⟩
  | 39 => ⟨S16x2x4x2048x2048, .f32⟩
  | 40 => ⟨S16x2x64x4x2048, .f32⟩
  | 41 => ⟨S16x2048x2x4x64, .f32⟩
  | 42 => ⟨S16x2048x512, .f32⟩
  | 43 => ⟨S16x2048x512, .bf16⟩
  | 44 => ⟨S16x2048x512, .bf16⟩
  | 45 => ⟨S1024x2816, .bf16⟩
  | 46 => ⟨S1024x2816, .bf16⟩
  | 47 => ⟨S2816x1024, .bf16⟩
  | _ => ⟨S16x2048x1536, .f32⟩

abbrev hbmTy (i : Nat) : BufTy := match i / 128 with
  | 0 => hbmTy0_0 i
  | 1 => hbmTy0_1 i
  | _ => ⟨S16x2048x1536, .f32⟩

abbrev bufTy : (tb : Table) → Fin (tcTables nBuf tb) → BufTy
  | .hbm, ⟨i, _⟩ => hbmTy i
  | _, _ => ⟨S16x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_c_1 : Ref sig .tc := ⟨.hbm, 53, rfl⟩
abbrev main_c_2 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v12 : Ref sig .tc := ⟨.hbm, 60, rfl⟩
abbrev main_c_3 : Ref sig .tc := ⟨.hbm, 61, rfl⟩
abbrev main_v13 : Ref sig .tc := ⟨.hbm, 62, rfl⟩
abbrev main_v14 : Ref sig .tc := ⟨.hbm, 63, rfl⟩
abbrev main_call3_v0 : Ref sig .tc := ⟨.hbm, 64, rfl⟩
abbrev main_v15 : Ref sig .tc := ⟨.hbm, 65, rfl⟩
abbrev main_v16 : Ref sig .tc := ⟨.hbm, 66, rfl⟩
abbrev main_cst : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_c_4 : Ref sig .tc := ⟨.hbm, 74, rfl⟩
abbrev main_v23 : Ref sig .tc := ⟨.hbm, 75, rfl⟩
abbrev main_v24 : Ref sig .tc := ⟨.hbm, 76, rfl⟩
abbrev main_c_5 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_cst_6 : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_v28 : Ref sig .tc := ⟨.hbm, 85, rfl⟩
abbrev main_cst_7 : Ref sig .tc := ⟨.hbm, 86, rfl⟩
abbrev main_v29 : Ref sig .tc := ⟨.hbm, 87, rfl⟩
abbrev main_cst_8 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_cst_9 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_c_10 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_cst_11 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_cst_12 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_c_13 : Ref sig .tc := ⟨.hbm, 137, rfl⟩
abbrev main_v74 : Ref sig .tc := ⟨.hbm, 138, rfl⟩
abbrev main_v75 : Ref sig .tc := ⟨.hbm, 139, rfl⟩
abbrev main_c_14 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_cst_15 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_cst_16 : Ref sig .tc := ⟨.hbm, 153, rfl⟩
abbrev main_v84 : Ref sig .tc := ⟨.hbm, 154, rfl⟩
abbrev main_cst_17 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_cst_18 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1024x2816 : Shape := ⟨2, ![1024, 2816]⟩
abbrev S2816x1024 : Shape := ⟨2, ![2816, 1024]⟩
abbrev S1024x4352 : Shape := ⟨2, ![1024, 4352]⟩
abbrev S32768x1024 : Shape := ⟨2, ![32768, 1024]⟩
abbrev S1x1024 : Shape := ⟨2, ![1, 1024]⟩
abbrev S32768x1536 : Shape := ⟨2, ![32768, 1536]⟩
abbrev S32768x768 : Shape := ⟨2, ![32768, 768]⟩
abbrev S32768x2048 : Shape := ⟨2, ![32768, 2048]⟩
abbrev S512x1024 : Shape := ⟨2, ![512, 1024]⟩
abbrev S512x1536 : Shape := ⟨2, ![512, 1536]⟩
abbrev S512x768 : Shape := ⟨2, ![512, 768]⟩
abbrev S512x2048 : Shape := ⟨2, ![512, 2048]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1024x512 : Shape := ⟨2, ![1024, 512]⟩
abbrev S512x512 : Shape := ⟨2, ![512, 512]⟩
abbrev S1024x1024 : Shape := ⟨2, ![1024, 1024]⟩
abbrev S1024x2048 : Shape := ⟨2, ![1024, 2048]⟩

abbrev nBuf : Space → Nat
  | .hbm => 18
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x4352, .f32⟩
  | .hbm, ⟨7, _⟩ => ⟨S32768x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S1024x4352, .bf16⟩
  | .hbm, ⟨14, _⟩ => ⟨S32768x1024, .f32⟩
  | .hbm, ⟨15, _⟩ => ⟨S32768x1536, .bf16⟩
  | .hbm, ⟨16, _⟩ => ⟨S32768x768, .bf16⟩
  | .hbm, ⟨17, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x4352, .bf16⟩
  | .local _ .vmem, ⟨8, _⟩ => ⟨S512x1024, .f32⟩
  | .local _ .vmem, ⟨9, _⟩ => ⟨S512x1024, .f32⟩
  | .local _ .vmem, ⟨10, _⟩ => ⟨S512x1536, .bf16⟩
  | .local _ .vmem, ⟨11, _⟩ => ⟨S512x1536, .bf16⟩
  | .local _ .vmem, ⟨12, _⟩ => ⟨S512x768, .bf16⟩
  | .local _ .vmem, ⟨13, _⟩ => ⟨S512x768, .bf16⟩
  | .local _ .vmem, ⟨14, _⟩ => ⟨S512x2048, .bf16⟩
  | .local _ .vmem, ⟨15, _⟩ => ⟨S512x2048, .bf16⟩
  | .local _ .vmem, ⟨16, _⟩ => ⟨S512x2816, .bf16⟩
  | .local _ .vmem, ⟨17, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c64_i32 : BitVec 32 := 64#32
  let v4 : BitVec 1 := Scalar.cmpi .slt arg0 c64_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c64_i32_3 : BitVec 32 := 64#32
  let v8 : BitVec 1 := Scalar.cmpi .eq arg0 c64_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4352 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel2Ideal.lean ====
variable {F : FTy → Type} [FloatOps F] [Named F]
def κ : String → Option EReal := fun
  | "qk_scale" => some (((Real.log 2)⁻¹ * (Real.sqrt 64)⁻¹ : ℝ) : EReal)
  | _ => none
-- ==== Reference2Ideal.lean ====
abbrev S16x2048x1024 : Shape := ⟨3, ![16, 2048, 1024]⟩
abbrev S1024 : Shape := ⟨1, ![1024]⟩
abbrev S1024x2816 : Shape := ⟨2, ![1024, 2816]⟩
abbrev S2816x1024 : Shape := ⟨2, ![2816, 1024]⟩
abbrev S1024x4352 : Shape := ⟨2, ![1024, 4352]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩
abbrev S32768x4352 : Shape := ⟨2, ![32768, 4352]⟩
abbrev S32768x512 : Shape := ⟨2, ![32768, 512]⟩
abbrev S32768x256 : Shape := ⟨2, ![32768, 256]⟩
abbrev S32768x2048 : Shape := ⟨2, ![32768, 2048]⟩
abbrev S32768x1536 : Shape := ⟨2, ![32768, 1536]⟩
abbrev S32768x768 : Shape := ⟨2, ![32768, 768]⟩

abbrev nBuf : Space → Nat
  | .hbm => 77
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x4352, .f32⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S32768x2816, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S_, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | .hbm, ⟨57, _⟩ => ⟨S32768x4352, .f32⟩
  | .hbm, ⟨58, _⟩ => ⟨S32768x512, .f32⟩
  | .hbm, ⟨59, _⟩ => ⟨S32768x1024, .f32⟩
  | .hbm, ⟨60, _⟩ => ⟨S32768x512, .f32⟩
  | .hbm, ⟨61, _⟩ => ⟨S32768x256, .f32⟩
  | .hbm, ⟨62, _⟩ => ⟨S32768x2048, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S32768x512, .f32⟩
  | .hbm, ⟨69, _⟩ => ⟨S32768x512, .f32⟩
  | .hbm, ⟨70, _⟩ => ⟨S32768x1536, .f32⟩
  | .hbm, ⟨71, _⟩ => ⟨S32768x512, .f32⟩
  | .hbm, ⟨72, _⟩ => ⟨S32768x512, .f32⟩
  | .hbm, ⟨73, _⟩ => ⟨S32768x768, .f32⟩
  | .hbm, ⟨74, _⟩ => ⟨S32768x1536, .bf16⟩
  | .hbm, ⟨75, _⟩ => ⟨S32768x768, .bf16⟩
  | .hbm, ⟨76, _⟩ => ⟨S32768x2048, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S32768x2048 : Shape := ⟨2, ![32768, 2048]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x512 : Shape := ⟨2, ![512, 512]⟩
abbrev S512x2816 : Shape := ⟨2, ![512, 2816]⟩
abbrev S512x256 : Shape := ⟨2, ![512, 256]⟩
abbrev S512 : Shape := ⟨1, ![512]⟩
abbrev S512x1 : Shape := ⟨2, ![512, 1]⟩
abbrev S1024x256 : Shape := ⟨2, ![1024, 256]⟩

abbrev nBuf : Space → Nat
  | .hbm => 24
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S32768x512, .bf16⟩
  | .hbm, ⟨13, _⟩ => ⟨S32768x512, .bf16⟩
  | .hbm, ⟨14, _⟩ => ⟨S32768x2048, .bf16⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S512x1024, .bf16⟩
  | .hbm, ⟨19, _⟩ => ⟨S512x1024, .bf16⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x2816, .bf16⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c64_i32 : BitVec 32 := 64#32
  let v4 : BitVec 1 := Scalar.cmpi .slt arg0 c64_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c64_i32_3 : BitVec 32 := 64#32
  let v8 : BitVec 1 := Scalar.cmpi .eq arg0 c64_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  ![v0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S32768x1024 : Shape := ⟨2, ![32768, 1024]⟩
abbrev S32768x512 : Shape := ⟨2, ![32768, 512]⟩
abbrev S32768x2048 : Shape := ⟨2, ![32768, 2048]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 86
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | .hbm, ⟨53, _⟩ => ⟨S32768x2816, .f32⟩
  | .hbm, ⟨54, _⟩ => ⟨S32768x2816, .f32⟩
  | .hbm, ⟨55, _⟩ => ⟨S32768x2816, .f32⟩
  | .hbm, ⟨56, _⟩ => ⟨S_, .f32⟩
  | .hbm, ⟨57, _⟩ => ⟨S32768x2816, .f32⟩
  | .hbm, ⟨58, _⟩ => ⟨S32768x2816, .f32⟩
  | .hbm, ⟨59, _⟩ => ⟨S_, .f32⟩
  | .hbm, ⟨60, _⟩ => ⟨S32768x2816, .f32⟩
  | .hbm, ⟨61, _⟩ => ⟨S32768x2816, .f32⟩
  | .hbm, ⟨62, _⟩ => ⟨S32768x2816, .f32⟩
  | .hbm, ⟨63, _⟩ => ⟨S32768x2816, .f32⟩
  | .hbm, ⟨64, _⟩ => ⟨S32768x2816, .f32⟩
  | .hbm, ⟨65, _⟩ => ⟨S32768x1024, .f32⟩
  | .hbm, ⟨66, _⟩ => ⟨S_, .f32⟩
  | .hbm, ⟨67, _⟩ => ⟨S32768x1024, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S_, .f32⟩
  | .hbm, ⟨72, _⟩ => ⟨S32768, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S_, .f32⟩
  | .hbm, ⟨78, _⟩ => ⟨S32768x1, .f32⟩
  | .hbm, ⟨79, _⟩ => ⟨S32768x1, .f32⟩
  | .hbm, ⟨80, _⟩ => ⟨S32768x1, .f32⟩
  | .hbm, ⟨81, _⟩ => ⟨S32768x1024, .f32⟩
  | .hbm, ⟨82, _⟩ => ⟨S32768x1024, .f32⟩
  | .hbm, ⟨83, _⟩ => ⟨S1x1024, .f32⟩
  | .hbm, ⟨84, _⟩ => ⟨S32768x1024, .f32⟩
  | .hbm, ⟨85, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩

abbrev nD : Nat := 1
abbrev τ : Topo := Topo.v7x

variable {F : FTy → Type} [FloatOps F]
-- ==== Proof.Run2.lean ====
/- The input call: which branch of the body each grid point takes, where its output windows are idle, and the buffers the body runs on. -/
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (UR sig nD τ) ℕ

/-- The first point only computes; the points between compute and project the rows computed before; the last only projects. -/
abbrev cond0_0 (i : grid0.Coords) : Prop := k0_cond1 i = 1#1
abbrev cond0_1 (i : grid0.Coords) : Prop := k0_cond2 i = 1#1
abbrev cond0_2 (i : grid0.Coords) : Prop := k0_cond3 i = 1#1

theorem isA : ∀ t : Fin cfg0.N, t.val = 0 → cond0_0 (grid0.coords t) ∧ ¬cond0_1 (grid0.coords t) ∧ ¬cond0_2 (grid0.coords t) := by decide +kernel
theorem isB : ∀ t : Fin cfg0.N, t.val ≠ 0 → t.val ≠ 64 → ¬cond0_0 (grid0.coords t) ∧ cond0_1 (grid0.coords t) ∧ ¬cond0_2 (grid0.coords t) := by decide +kernel
theorem isC : ∀ t : Fin cfg0.N, t.val = 64 → ¬cond0_0 (grid0.coords t) ∧ ¬cond0_1 (grid0.coords t) ∧ cond0_2 (grid0.coords t) := by decide +kernel

/-- Where the output windows are stored into, and where they are written back. -/
theorem liveIn : ∀ t : Fin cfg0.N, ∀ w : Fin 11, w.val < 7 → cfg0.idle w (grid0.coords t) = false := by decide +kernel
theorem live7 : ∀ t : Fin cfg0.N, t.val ≠ 64 → cfg0.idle 7 (grid0.coords t) = false := by decide +kernel
theorem idle7 : ∀ t : Fin cfg0.N, t.val = 64 → cfg0.idle 7 (grid0.coords t) = true := by decide +kernel
theorem flush7 : ∀ t : Fin cfg0.N, t.val = 64 → (cfg0.win 7).flush t = true := by decide +kernel
theorem hold7 : ∀ t : Fin cfg0.N, t.val = 63 → (cfg0.win 7).flush t = false := by decide +kernel
theorem nofetch7 : ∀ t : Fin cfg0.N, (cfg0.win 7).fetch t = false := by decide +kernel
theorem liveOut : ∀ t : Fin cfg0.N, t.val ≠ 0 → ∀ w : Fin 11, 8 ≤ w.val → cfg0.idle w (grid0.coords t) = false := by decide +kernel
theorem idleOut : ∀ t : Fin cfg0.N, t.val = 0 → ∀ w : Fin 11, 8 ≤ w.val → cfg0.idle w (grid0.coords t) = true := by decide +kernel
theorem noflushOut8 : ∀ t : Fin cfg0.N, t.val = 0 → (cfg0.win 8).flush t = false := by decide +kernel
theorem noflushOut9 : ∀ t : Fin cfg0.N, t.val = 0 → (cfg0.win 9).flush t = false := by decide +kernel
theorem noflushOut10 : ∀ t : Fin cfg0.N, t.val = 0 → (cfg0.win 10).flush t = false := by decide +kernel

/-! The staging buffers of a point, the scratch buffers, and the views whose contents the results are read from. -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2816 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2816 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2816x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x4352 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1536 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x768 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x2048 .bf16 := win0_10.stage (cfg0.slots t 10)
abbrev hs0_10 (t : Fin cfg0.N) : (ms0_10 t).IsWhole := hstage0_10 ((cfg0.slots t 10).cast nbuf0_10)
abbrev scM0_0 : Memref sig .tc .vmem S512x2816 .bf16 := Memref.whole cc0_scratch0
abbrev scM0_1 : Memref sig .tc .vmem S512x1024 .bf16 := Memref.whole cc0_scratch1
abbrev VO0_7 : View sig .tc .vmem S512x1024 .f32 := (Memref.whole cc0_stg7_0 : Memref sig .tc .vmem S512x1024 .f32).view
abbrev VO0_8 : View sig .tc .vmem S512x1536 .bf16 := (Memref.whole cc0_stg8_0 : Memref sig .tc .vmem S512x1536 .bf16).view
abbrev VO0_9 : View sig .tc .vmem S512x768 .bf16 := (Memref.whole cc0_stg9_0 : Memref sig .tc .vmem S512x768 .bf16).view
abbrev VO0_10 : View sig .tc .vmem S512x2048 .bf16 := (Memref.whole cc0_stg10_0 : Memref sig .tc .vmem S512x2048 .bf16).view
abbrev VS0_1 : View sig .tc .vmem S512x1024 .bf16 := scM0_1.view

/-- What the region keeps between points: the two scratch buffers and the random-number register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel2Ideal.Fr

end
-- ==== Proof.Run2A.lean ====
/- The input call: the body at the first point. -/
module

public import proofs.«01_k».proof.Proof.Run2

@[expose] public section

set_option maxRecDepth 16384

noncomputable section

namespace Cert.Kernel2Ideal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (UR sig nD τ) ℕ

/-- The first point: the rows are computed, their normalized form is left in the scratch, the other outputs are untouched. -/
noncomputable def kernelRun0_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x4352 .bf16) (harg7 : arg7.IsWhole) (arg8 : Memref sig .tc .vmem S512x1024 .f32) (harg8 : arg8.IsWhole) (arg9 : Memref sig .tc .vmem S512x1536 .bf16) (harg9 : arg9.IsWhole) (arg10 : Memref sig .tc .vmem S512x768 .bf16) (harg10 : arg10.IsWhole) (arg11 : Memref sig .tc .vmem S512x2048 .bf16) (harg11 : arg11.IsWhole) (arg12 : Memref sig .tc .vmem S512x2816 .bf16) (harg12 : arg12.IsWhole) (arg13 : Memref sig .tc .vmem S512x1024 .bf16) (harg13 : arg13.IsWhole) (hc0 : cond0_0 i) (hc1 : ¬cond0_1 i) (hc2 : ¬cond0_2 i)
    (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) :
    Σ' (L7 : List (View.Piece (Elt F) S512x1024 .f32)), Σ' (L8 : List (View.Piece (Elt F) S512x1536 .bf16)), Σ' (L9 : List (View.Piece (Elt F) S512x768 .bf16)), Σ' (L10 : List (View.Piece (Elt F) S512x2048 .bf16)), Σ' (LS1 : List (View.Piece (Elt F) S512x1024 .bf16)), { LT0 : List (View.Piece (Elt F) S512x2816 .bf16) //
      ∀ (xi8 : Vec F S512x1536 .bf16) (xi9 : Vec F S512x768 .bf16) (xi10 : Vec F S512x2048 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xi9 ∗ owns (c : Thread nD τ) arg11 fullShare xi10 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ owns (c : Thread nD τ) arg11 fullShare xi10 ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LS1)) -∗ K ⟨⟩))
          ⊢ wp frame (wpE (defs₀ (F := F)) Variants.none c none) E (cc0_ffn_in i arg1 harg1 arg2 harg2 arg3 harg3 arg4 harg4 arg5 harg5 arg6 harg6 arg7 harg7 arg8 harg8 arg9 harg9 arg10 harg10 arg11 harg11 arg12 harg12 arg13 harg13) K } := by
  refine ⟨?_, [], [], [], ?_, ?_, fun xi8 xi9 xi10 E K => ?run⟩
  case run =>
    simp only [cc0_ffn_in_eq_skeleton]; unfold cc0_ffn_in_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    iexists _; iexact HS1

end Cert.Kernel2Ideal.Fr

end
-- ==== Proof.Run2B.lean ====
/- The input call: the body at the points between. -/
module

public import proofs.«01_k».proof.Proof.Run2

@[expose] public section

set_option maxRecDepth 16384

noncomputable section

namespace Cert.Kernel2Ideal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (UR sig nD τ) ℕ

/-- A point between: the rows kept in the scratch are projected, then the next rows are computed and their normalized form kept. -/
noncomputable def kernelRun0_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x4352 .bf16) (harg7 : arg7.IsWhole) (arg8 : Memref sig .tc .vmem S512x1024 .f32) (harg8 : arg8.IsWhole) (arg9 : Memref sig .tc .vmem S512x1536 .bf16) (harg9 : arg9.IsWhole) (arg10 : Memref sig .tc .vmem S512x768 .bf16) (harg10 : arg10.IsWhole) (arg11 : Memref sig .tc .vmem S512x2048 .bf16) (harg11 : arg11.IsWhole) (arg12 : Memref sig .tc .vmem S512x2816 .bf16) (harg12 : arg12.IsWhole) (arg13 : Memref sig .tc .vmem S512x1024 .bf16) (harg13 : arg13.IsWhole) (hc0 : ¬cond0_0 i) (hc1 : cond0_1 i) (hc2 : ¬cond0_2 i)
    (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) :
    Σ' (L7 : List (View.Piece (Elt F) S512x1024 .f32)), Σ' (L8 : List (View.Piece (Elt F) S512x1536 .bf16)), Σ' (L9 : List (View.Piece (Elt F) S512x768 .bf16)), Σ' (L10 : List (View.Piece (Elt F) S512x2048 .bf16)), Σ' (LS1 : List (View.Piece (Elt F) S512x1024 .bf16)), { LT0 : List (View.Piece (Elt F) S512x2816 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LT0) ∗ (∃ f, arg13.view.loc (c : Thread nD τ) ↦[arg13.view.set]{fullShare} arg13.view.writes (Elt F) f LS1)) -∗ K ⟨⟩))
          ⊢ wp frame (wpE (defs₀ (F := F)) Variants.none c none) E (cc0_ffn_in i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_ffn_in_eq_skeleton]; unfold cc0_ffn_in_skel
    simp only [k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg13.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [HS0]; · iexists _; iexact HS0
    iexists _; iexact HS1

end Cert.Kernel2Ideal.Fr

end
-- ==== Proof.Run2C.lean ====
/- The input call: the body at the last point. -/
module

public import proofs.«01_k».proof.Proof.Run2

@[expose] public section

set_option maxRecDepth 16384

noncomputable section

namespace Cert.Kernel2Ideal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (UR sig nD τ) ℕ

/-- The last point: the rows kept in the scratch are projected; the first output is left as found. -/
noncomputable def kernelRun0_C (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x4352 .bf16) (harg7 : arg7.IsWhole) (arg8 : Memref sig .tc .vmem S512x1024 .f32) (harg8 : arg8.IsWhole) (arg9 : Memref sig .tc .vmem S512x1536 .bf16) (harg9 : arg9.IsWhole) (arg10 : Memref sig .tc .vmem S512x768 .bf16) (harg10 : arg10.IsWhole) (arg11 : Memref sig .tc .vmem S512x2048 .bf16) (harg11 : arg11.IsWhole) (arg12 : Memref sig .tc .vmem S512x2816 .bf16) (harg12 : arg12.IsWhole) (arg13 : Memref sig .tc .vmem S512x1024 .bf16) (harg13 : arg13.IsWhole) (hc0 : ¬cond0_0 i) (hc1 : ¬cond0_1 i) (hc2 : cond0_2 i)
    (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) :
    Σ' (L7 : List (View.Piece (Elt F) S512x1024 .f32)), Σ' (L8 : List (View.Piece (Elt F) S512x1536 .bf16)), Σ' (L9 : List (View.Piece (Elt F) S512x768 .bf16)), Σ' (L10 : List (View.Piece (Elt F) S512x2048 .bf16)), Σ' (LS1 : List (View.Piece (Elt F) S512x1024 .bf16)), { LT0 : List (View.Piece (Elt F) S512x2816 .bf16) //
      ∀ (xi7 : Vec F S512x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ d, owns (c : Thread nD τ) arg12 fullShare d) ∗ owns (c : Thread nD τ) arg13 fullShare xs1) -∗ K ⟨⟩))
          ⊢ wp frame (wpE (defs₀ (F := F)) Variants.none c none) E (cc0_ffn_in i arg1 harg1 arg2 harg2 arg3 harg3 arg4 harg4 arg5 harg5 arg6 harg6 arg7 harg7 arg8 harg8 arg9 harg9 arg10 harg10 arg11 harg11 arg12 harg12 arg13 harg13) K } := by
  refine ⟨[], ?_, ?_, ?_, [], [], fun xi7 E K => ?run⟩
  case run =>
    simp only [cc0_ffn_in_eq_skeleton]; unfold cc0_ffn_in_skel
    simp only [k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [HS0]
    · iexists _, _; isplitr; swap; · iexact HS0
      ipureintro; rfl
    iexists _; isplitr; · ipureintro; exact harg13.read_unread _
    iexact HS1

end Cert.Kernel2Ideal.Fr

end
-- ==== Proof.Frame2.lean ====
/- The input call: what each grid point leaves in the windows and in the kept scratch, and the run of the whole grid. -/
module

public import proofs.«01_k».proof.Proof.Run2A
public import proofs.«01_k».proof.Proof.Run2B
public import proofs.«01_k».proof.Proof.Run2C
public import Idealize.ShloMosaic.Lib.Claim

@[expose] public section

set_option maxRecDepth 16384

noncomputable section

namespace Cert.Kernel2Ideal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F] [Named F]

local notation "𝕄" => MT nD τ sig Unit (Elt F) ℕ (UR sig nD τ) ℕ

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x4352 .bf16) (harg7 : arg7.IsWhole) (arg8 : Memref sig .tc .vmem S512x1024 .f32) (harg8 : arg8.IsWhole) (arg9 : Memref sig .tc .vmem S512x1536 .bf16) (harg9 : arg9.IsWhole) (arg10 : Memref sig .tc .vmem S512x768 .bf16) (harg10 : arg10.IsWhole) (arg11 : Memref sig .tc .vmem S512x2048 .bf16) (harg11 : arg11.IsWhole) (arg12 : Memref sig .tc .vmem S512x2816 .bf16) (harg12 : arg12.IsWhole) (arg13 : Memref sig .tc .vmem S512x1024 .bf16) (harg13 : arg13.IsWhole)

theorem cover0_A_7 (hc0 : cond0_0 i) (hc1 : ¬cond0_1 i) (hc2 : ¬cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).1 S512x1024.size (by sl_kernel_rfl) y
/-- What output 7's buffer holds after the body. -/
def out0_A_7 (hc0 : cond0_0 i) (hc1 : ¬cond0_1 i) (hc2 : ¬cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) : Vec F S512x1024 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).1)
theorem scover0_A_1 (hc0 : cond0_0 i) (hc1 : ¬cond0_1 i) (hc2 : ¬cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.2.1 S512x1024.size (by sl_kernel_rfl) y
/-- The normalized rows the body keeps. -/
def sout0_A_1 (hc0 : cond0_0 i) (hc1 : ¬cond0_1 i) (hc2 : ¬cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) : Vec F S512x1024 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.2.1)
theorem cover0_B_7 (hc0 : ¬cond0_0 i) (hc1 : cond0_1 i) (hc2 : ¬cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).1 S512x1024.size (by sl_kernel_rfl) y
/-- What output 7's buffer holds after the body. -/
def out0_B_7 (hc0 : ¬cond0_0 i) (hc1 : cond0_1 i) (hc2 : ¬cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) : Vec F S512x1024 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).1)
theorem cover0_B_8 (hc0 : ¬cond0_0 i) (hc1 : cond0_1 i) (hc2 : ¬cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) (y : S512x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.1 ![512, 512] (by sl_kernel_rfl) y
/-- What output 8's buffer holds after the body. -/
def out0_B_8 (hc0 : ¬cond0_0 i) (hc1 : cond0_1 i) (hc2 : ¬cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) : Vec F S512x1536 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.1)
theorem cover0_B_9 (hc0 : ¬cond0_0 i) (hc1 : cond0_1 i) (hc2 : ¬cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) (y : S512x768.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.2.1 ![512, 256] (by sl_kernel_rfl) y
/-- What output 9's buffer holds after the body. -/
def out0_B_9 (hc0 : ¬cond0_0 i) (hc1 : cond0_1 i) (hc2 : ¬cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) : Vec F S512x768 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.2.1)
theorem cover0_B_10 (hc0 : ¬cond0_0 i) (hc1 : cond0_1 i) (hc2 : ¬cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) (y : S512x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.2.2.1 S512x2048.size (by sl_kernel_rfl) y
/-- What output 10's buffer holds after the body. -/
def out0_B_10 (hc0 : ¬cond0_0 i) (hc1 : cond0_1 i) (hc2 : ¬cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) : Vec F S512x2048 .bf16 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.2.2.1)
theorem scover0_B_1 (hc0 : ¬cond0_0 i) (hc1 : cond0_1 i) (hc2 : ¬cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.2.2.2.1 S512x1024.size (by sl_kernel_rfl) y
/-- The normalized rows the body keeps. -/
def sout0_B_1 (hc0 : ¬cond0_0 i) (hc1 : cond0_1 i) (hc2 : ¬cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) : Vec F S512x1024 .bf16 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.2.2.2.1)
theorem cover0_C_8 (hc0 : ¬cond0_0 i) (hc1 : ¬cond0_1 i) (hc2 : cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) (y : S512x1536.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.1 ![512, 512] (by sl_kernel_rfl) y
/-- What output 8's buffer holds after the body. -/
def out0_C_8 (hc0 : ¬cond0_0 i) (hc1 : ¬cond0_1 i) (hc2 : cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) : Vec F S512x1536 .bf16 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.1)
theorem cover0_C_9 (hc0 : ¬cond0_0 i) (hc1 : ¬cond0_1 i) (hc2 : cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) (y : S512x768.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.2.1 ![512, 256] (by sl_kernel_rfl) y
/-- What output 9's buffer holds after the body. -/
def out0_C_9 (hc0 : ¬cond0_0 i) (hc1 : ¬cond0_1 i) (hc2 : cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) : Vec F S512x768 .bf16 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.2.1)
theorem cover0_C_10 (hc0 : ¬cond0_0 i) (hc1 : ¬cond0_1 i) (hc2 : cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) (y : S512x2048.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.2.2.1 S512x2048.size (by sl_kernel_rfl) y
/-- What output 10's buffer holds after the body. -/
def out0_C_10 (hc0 : ¬cond0_0 i) (hc1 : ¬cond0_1 i) (hc2 : cond0_2 i) (x0 : Vec F S512x1024 .f32) (x1 : Vec F S1x1024 .f32) (x2 : Vec F S1024x2816 .bf16) (x3 : Vec F S1024x2816 .bf16) (x4 : Vec F S2816x1024 .bf16) (x5 : Vec F S1x1024 .f32) (x6 : Vec F S1024x4352 .bf16) (xs1 : Vec F S512x1024 .bf16) : Vec F S512x2048 .bf16 :=
  VO0_10.read (Elt F) (VO0_10.writes (Elt F) VO0_10.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1).2.2.2.1)

end

variable (m : (ℓ : Loc nD τ sig) → Buf (Elt F) ℓ) (ρ : Dev nD → PrngReg)

/-- The four outputs' buffers and the kept rows. -/
abbrev Outs (F : FTy → Type) := Vec F S512x1024 .f32 × Vec F S512x1536 .bf16 × Vec F S512x768 .bf16 × Vec F S512x2048 .bf16 × Vec F S512x1024 .bf16

/-- After the first point. -/
def atA (c : Dev nD) (t : Fin cfg0.N) (h : t.val = 0) : Outs F :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (isA t h).1 (isA t h).2.1 (isA t h).2.2 (iblk m c 0 t) (iblk m c 1 t) (iblk m c 2 t) (iblk m c 3 t) (iblk m c 4 t) (iblk m c 5 t) (iblk m c 6 t),
   VO0_8.read (Elt F) VO0_8.junk, VO0_9.read (Elt F) VO0_9.junk, VO0_10.read (Elt F) VO0_10.junk,
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (isA t h).1 (isA t h).2.1 (isA t h).2.2 (iblk m c 0 t) (iblk m c 1 t) (iblk m c 2 t) (iblk m c 3 t) (iblk m c 4 t) (iblk m c 5 t) (iblk m c 6 t))
/-- After a point between, from what the one before left. -/
def atB (c : Dev nD) (t : Fin cfg0.N) (h : t.val ≠ 0) (h' : t.val ≠ 64) (p : Outs F) : Outs F :=
  (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (isB t h h').1 (isB t h h').2.1 (isB t h h').2.2 (iblk m c 0 t) (iblk m c 1 t) (iblk m c 2 t) (iblk m c 3 t) (iblk m c 4 t) (iblk m c 5 t) (iblk m c 6 t) p.2.2.2.2,
   out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (isB t h h').1 (isB t h h').2.1 (isB t h h').2.2 (iblk m c 0 t) (iblk m c 1 t) (iblk m c 2 t) (iblk m c 3 t) (iblk m c 4 t) (iblk m c 5 t) (iblk m c 6 t) p.2.2.2.2,
   out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (isB t h h').1 (isB t h h').2.1 (isB t h h').2.2 (iblk m c 0 t) (iblk m c 1 t) (iblk m c 2 t) (iblk m c 3 t) (iblk m c 4 t) (iblk m c 5 t) (iblk m c 6 t) p.2.2.2.2,
   out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (isB t h h').1 (isB t h h').2.1 (isB t h h').2.2 (iblk m c 0 t) (iblk m c 1 t) (iblk m c 2 t) (iblk m c 3 t) (iblk m c 4 t) (iblk m c 5 t) (iblk m c 6 t) p.2.2.2.2,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (isB t h h').1 (isB t h h').2.1 (isB t h h').2.2 (iblk m c 0 t) (iblk m c 1 t) (iblk m c 2 t) (iblk m c 3 t) (iblk m c 4 t) (iblk m c 5 t) (iblk m c 6 t) p.2.2.2.2)
/-- After the last point, from what the one before left. -/
def atC (c : Dev nD) (t : Fin cfg0.N) (h : t.val = 64) (p : Outs F) : Outs F :=
  (p.1,
   out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (isC t h).1 (isC t h).2.1 (isC t h).2.2 (iblk m c 0 t) (iblk m c 1 t) (iblk m c 2 t) (iblk m c 3 t) (iblk m c 4 t) (iblk m c 5 t) (iblk m c 6 t) p.2.2.2.2,
   out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (isC t h).1 (isC t h).2.1 (isC t h).2.2 (iblk m c 0 t) (iblk m c 1 t) (iblk m c 2 t) (iblk m c 3 t) (iblk m c 4 t) (iblk m c 5 t) (iblk m c 6 t) p.2.2.2.2,
   out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (isC t h).1 (isC t h).2.1 (isC t h).2.2 (iblk m c 0 t) (iblk m c 1 t) (iblk m c 2 t) (iblk m c 3 t) (iblk m c 4 t) (iblk m c 5 t) (iblk m c 6 t) p.2.2.2.2,
   p.2.2.2.2)
/-- After any point. -/
def outsAt0 (c : Dev nD) : (n : ℕ) → n < cfg0.N → Outs F
  | 0, hn => atA m c ⟨0, hn⟩ rfl
  | n + 1, hn =>
    if h : n + 1 = 64 then atC m c ⟨n + 1, hn⟩ h (outsAt0 c n (Nat.lt_of_succ_lt hn))
    else atB m c ⟨n + 1, hn⟩ (Nat.succ_ne_zero n) h (outsAt0 c n (Nat.lt_of_succ_lt hn))

theorem pred_lt (t : Fin cfg0.N) : t.val - 1 < cfg0.N := Nat.lt_of_le_of_lt (Nat.sub_le _ _) t.isLt

theorem outsAt0_A (c : Dev nD) (t : Fin cfg0.N) (h : t.val = 0) : outsAt0 m c t.val t.isLt = atA m c t h := by
  obtain ⟨n, hn⟩ := t
  cases n with
  | zero => rfl
  | succ n => exact absurd h (Nat.succ_ne_zero n)
theorem outsAt0_B (c : Dev nD) (t : Fin cfg0.N) (h : t.val ≠ 0) (h' : t.val ≠ 64) :
    outsAt0 m c t.val t.isLt = atB m c t h h' (outsAt0 m c (t.val - 1) (pred_lt t)) := by
  obtain ⟨n, hn⟩ := t
  cases n with
  | zero => exact absurd rfl h
  | succ n => exact (dif_neg h').trans rfl
theorem outsAt0_C (c : Dev nD) (t : Fin cfg0.N) (h : t.val = 64) :
    outsAt0 m c t.val t.isLt = atC m c t h (outsAt0 m c (t.val - 1) (pred_lt t)) := by
  obtain ⟨n, hn⟩ := t
  cases n with
  | zero => exact absurd h (by dsimp only; omega)
  | succ n => exact (dif_pos h).trans rfl

/-- What the region keeps before each point. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.2)) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.2)) ∗ (∃ r, prngReg c r)) := rfl
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.2)) ∗ (∃ r, prngReg c r)) := by
  cases n with
  | zero => exact absurd rfl hz
  | succ n => rfl

/-- The buffers and the kept contents, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
  Φ t := PhiS m c t.val (Nat.le_of_lt_succ t.isLt)
  q _ := fullShare
  owed _ := 0
theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- A window the point stores into is left at what was stored. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]
theorem lv0 (c : Dev nD) (t : Fin cfg0.N) : (dats m 0 c).leavesExact 0 t = owns (c : Thread nD τ) (ms0_0 t) fullShare (iblk m c 0 t) :=
  (leaves_live m c 0 t (liveIn t 0 (by decide))).trans (by rw [after0_0])
theorem lv1 (c : Dev nD) (t : Fin cfg0.N) : (dats m 0 c).leavesExact 1 t = owns (c : Thread nD τ) (ms0_1 t) fullShare (iblk m c 1 t) :=
  (leaves_live m c 1 t (liveIn t 1 (by decide))).trans (by rw [after0_1])
theorem lv2 (c : Dev nD) (t : Fin cfg0.N) : (dats m 0 c).leavesExact 2 t = owns (c : Thread nD τ) (ms0_2 t) fullShare (iblk m c 2 t) :=
  (leaves_live m c 2 t (liveIn t 2 (by decide))).trans (by rw [after0_2])
theorem lv3 (c : Dev nD) (t : Fin cfg0.N) : (dats m 0 c).leavesExact 3 t = owns (c : Thread nD τ) (ms0_3 t) fullShare (iblk m c 3 t) :=
  (leaves_live m c 3 t (liveIn t 3 (by decide))).trans (by rw [after0_3])
theorem lv4 (c : Dev nD) (t : Fin cfg0.N) : (dats m 0 c).leavesExact 4 t = owns (c : Thread nD τ) (ms0_4 t) fullShare (iblk m c 4 t) :=
  (leaves_live m c 4 t (liveIn t 4 (by decide))).trans (by rw [after0_4])
theorem lv5 (c : Dev nD) (t : Fin cfg0.N) : (dats m 0 c).leavesExact 5 t = owns (c : Thread nD τ) (ms0_5 t) fullShare (iblk m c 5 t) :=
  (leaves_live m c 5 t (liveIn t 5 (by decide))).trans (by rw [after0_5])
theorem lv6 (c : Dev nD) (t : Fin cfg0.N) : (dats m 0 c).leavesExact 6 t = owns (c : Thread nD τ) (ms0_6 t) fullShare (iblk m c 6 t) :=
  (leaves_live m c 6 t (liveIn t 6 (by decide))).trans (by rw [after0_6])
theorem lv7 (c : Dev nD) (t : Fin cfg0.N) (h : t.val ≠ 64) : (dats m 0 c).leavesExact 7 t = owns (c : Thread nD τ) (ms0_7 t) fullShare ((outsAt0 m c t.val t.isLt).1) :=
  (leaves_live m c 7 t (live7 t h)).trans (by rw [after0_7])
theorem lv8 (c : Dev nD) (t : Fin cfg0.N) (h : t.val ≠ 0) : (dats m 0 c).leavesExact 8 t = owns (c : Thread nD τ) (ms0_8 t) fullShare ((outsAt0 m c t.val t.isLt).2.1) :=
  (leaves_live m c 8 t (liveOut t h 8 (by decide))).trans (by rw [after0_8])
theorem lv9 (c : Dev nD) (t : Fin cfg0.N) (h : t.val ≠ 0) : (dats m 0 c).leavesExact 9 t = owns (c : Thread nD τ) (ms0_9 t) fullShare ((outsAt0 m c t.val t.isLt).2.2.1) :=
  (leaves_live m c 9 t (liveOut t h 9 (by decide))).trans (by rw [after0_9])
theorem lv10 (c : Dev nD) (t : Fin cfg0.N) (h : t.val ≠ 0) : (dats m 0 c).leavesExact 10 t = owns (c : Thread nD τ) (ms0_10 t) fullShare ((outsAt0 m c t.val t.isLt).2.2.2.1) :=
  (leaves_live m c 10 t (liveOut t h 10 (by decide))).trans (by rw [after0_10])
/-- At the last point the first output's buffer is written back as the point before left it. -/
theorem lv7_last (c : Dev nD) (t : Fin cfg0.N) (h : t.val = 64) :
    (dats m 0 c).leavesExact 7 t = owns (c : Thread nD τ) (ms0_7 t) fullShare ((outsAt0 m c t.val t.isLt).1) := by
  unfold Dat.leavesExact; rw [show cfg0.idle 7 (cfg0.grid.coords t) = true from idle7 t h, flush7 t h, after0_7]
theorem before7_last (c : Dev nD) (t : Fin cfg0.N) (h : t.val = 64) (d : (cfg0.win 7).block.Idx → Elt F (cfg0.win 7).elt) :
    (dats m 0 c).before 7 t d = (outsAt0 m c (t.val - 1) (pred_lt t)).1 := by
  have h1 : cfg0.idle 7 (cfg0.grid.coords ⟨t.val - 1, pred_lt t⟩) = false := live7 ⟨t.val - 1, pred_lt t⟩ (by dsimp only; omega)
  rw [Dat.before_of_pos (dats m 0 c) 7 t (by omega) (nofetch7 t), hold7 ⟨t.val - 1, pred_lt t⟩ (by dsimp only; omega), if_neg Bool.false_ne_true]
  unfold Dat.left; rw [h1]; dsimp only
  unfold Dat.kept; rw [after0_7]; rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
theorem body_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ, lv0, lv1, lv2, lv3, lv4, lv5, lv6]
  rw [lv7 m c t (by omega), Dat.leavesExact_idle (dats m 0 c) 8 t (idleOut t h 8 (by decide)) (noflushOut8 t h),
    Dat.leavesExact_idle (dats m 0 c) 9 t (idleOut t h 9 (by decide)) (noflushOut9 t h),
    Dat.leavesExact_idle (dats m 0 c) 10 t (idleOut t h 10 (by decide)) (noflushOut10 t h)]
  rw [PhiS_castSucc m c t, PhiS_zero m c _ _ h, PhiA0_eq, outsAt0_A m c t h]
  unfold atA out0_A_7 sout0_A_1; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ _ _ (isA t h).1 (isA t h).2.1 (isA t h).2.2 (iblk m c 0 t) (iblk m c 1 t) (iblk m c 2 t) (iblk m c 3 t) (iblk m c 4 t) (iblk m c 5 t) (iblk m c 6 t)).2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexact H10
  isplitl [HS0]; · iexact HS0
  isplitl [HS1]; · iexact HS1
  iintro ⟨H0, H1, H2, H3, H4, H5, H6, ⟨%e7, H7⟩, H8, H9, H10, ⟨%fT0, HS0⟩, ⟨%es1, HS1⟩⟩
  isplitl [HS0 HS1 Hg]
  · isplitl [HS0 HS1]
    · isplitl [HS0]
      · iexists _; unfold owns; iexists _; isplitr
        swap; · iexact HS0
        ipureintro; rfl
      unfold owns; iexists _; isplitr
      swap; · iexact HS1
      ipureintro; exact View.read_writes_of_cover _ _ _ _ _ (scover0_A_1 c _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _ _ _ _ _)
  isplitl [H8]; · iexists _; iexact H8
  isplitl [H9]; · iexists _; iexact H9
  iexists _; iexact H10

set_option maxHeartbeats 14400000 in
theorem body_B (c : Dev nD) (t : Fin cfg0.N) (h : t.val ≠ 0) (h' : t.val ≠ 64) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ, lv0, lv1, lv2, lv3, lv4, lv5, lv6]
  rw [lv7 m c t h', lv8 m c t h, lv9 m c t h, lv10 m c t h, PhiS_castSucc m c t, PhiS_pos m c _ _ h, outsAt0_B m c t h h']
  unfold atB out0_B_7 out0_B_8 out0_B_9 out0_B_10 sout0_B_1; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_B c (grid0.coords t) _ _ _ _ _ _ _ _ _ _ _ _ _ _ _ _ _ _ _ _ _ _ _ _ _ _ (isB t h h').1 (isB t h h').2.1 (isB t h h').2.2 (iblk m c 0 t) (iblk m c 1 t) (iblk m c 2 t) (iblk m c 3 t) (iblk m c 4 t) (iblk m c 5 t) (iblk m c 6 t) _).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, ⟨%e7, H7⟩, ⟨%e8, H8⟩, ⟨%e9, H9⟩, ⟨%e10, H10⟩, ⟨%fT0, HS0⟩, ⟨%es1, HS1⟩⟩
  isplitl [HS0 HS1 Hg]
  · isplitl [HS0 HS1]
    · isplitl [HS0]
      · iexists _; unfold owns; iexists _; isplitr
        swap; · iexact HS0
        ipureintro; rfl
      unfold owns; iexists _; isplitr
      swap; · iexact HS1
      ipureintro; exact View.read_writes_of_cover _ _ _ _ _ (scover0_B_1 c _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_B_7 c _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_B_8 c _ _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _ _ _ _ _ _ _)
  unfold owns; iexists _; isplitr
  swap; · iexact H10
  ipureintro; exact View.read_writes_of_cover _ _ _ _ _ (cover0_B_10 c _ _ _ _ _ _ _ _ _ _ _ _ _ _ _ _ _ _ _ _ _ _ _ _ _ _ _ _ _ _ _ _ _ _ _ _ _ _)

set_option maxHeartbeats 14400000 in
theorem body_C (c : Dev nD) (t : Fin cfg0.N) (h : t.val = 64) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ, lv0, lv1, lv2, lv3, lv4, lv5, lv6]
  simp only [before7_last m c t h]
  rw [lv7_last m c t h, lv8 m c t (by omega), lv9 m c t (by omega), lv10 m c t (by omega), PhiS_castSucc m c t, PhiS_pos m c _ _ (by omega), outsAt0_C m c t h]
  unfold atC out0_C_8 out0_C_9 out0_C_10; dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_C c (grid0.coords t) _ _ _ _ _ _ _ _ _ _ _ _ _ _ _ _ _ _ _ _ _ _ _ _ _ _ (isC t h).1 (isC t h).2.1 (isC t h).2.2 (iblk m c 0 t) (iblk m c 1 t) (iblk m c 2 t) (iblk m c 3 t) (iblk m c 4 t) (iblk m c 5 t) (iblk m c 6 t) _).2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  iintro ⟨H0, H1, H2, H3, H4, H5, H6, H7, ⟨%e8, H8⟩, ⟨%e9, H9⟩, ⟨%e10, H10⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover0_C_8 c _ _ _ _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover0_C_9 c _ _ _ _ _ _ _ _ _ _ _ _ _ _ _ _ _ _ _ _ _ _ _ _ _ _ _ _ _ _ _ _ _ _ _ _ _ _)
  unfold owns; iexists _; isplitr
  swap; · iexact H10
  ipureintro; exact View.read_writes_of_cover _ _ _ _ _ (cover0_C_10 c _ _ _ _ _ _ _ _ _ _ _ _ _ _ _ _ _ _ _ _ _ _ _ _ _ _ _ _ _ _ _ _ _ _ _ _ _ _)

theorem sound_body (c : Dev nD) (t : Fin cfg0.N) :
    bodyPre m c t ⊢ wp frame (wpE (defs₀ (F := F)) Variants.none c none) Set.univ (bodyAt0 t) (fun _ => bodyPost m c t) := by
  by_cases h : t.val = 0
  · exact body_A m c t h
  by_cases h' : t.val = 64
  · exact body_C m c t h'
  exact body_B m c t h h'

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg
theorem hout (c : Dev nD) : (dats m 0 c).Φ (Fin.last cfg0.N) ⊢ Pipeline.ΦA spec0 c :=
  Phi_out m c _ (by rw [Fin.val_last]; have : cfg0.N = 65 := N_0; omega)

set_option backward.isDefEq.respectTransparency.types false in
set_option maxHeartbeats 800000 in
/-- Every run of the program ends with every array at what the points left, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) ⟨m, fun _ => 0, ρ⟩ (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel2Ideal.Fr

end
-- ==== Proof.Bits2.lean ====
/- The input call as written: it is the idealized program at machine floats, where a named constant is its own literal. -/
module

public import proofs.«01_k».proof.Defs
public import proofs.«01_k».proof.Proof.Frame2
public import proofs.«01_k».proof.Proof.Gen.Kernel2.Launch

@[expose] public section

set_option maxRecDepth 16384
noncomputable section
namespace Cert.Bits2
open Idealize.ShloMosaic Idealize.ShloMosaic.TcCoe

attribute [local instance] Cert.Kernel2.Gen.facts Cert.Kernel2Ideal.Gen.facts

/-- At machine floats a named constant is the literal it names. -/
abbrev literal : Named Bits := ⟨fun _ _ {φ} bits => FloatOps.ofBits φ bits⟩

/-- The two programs have one body table. -/
theorem defs₀_eq : (letI := literal; Cert.Kernel2Ideal.defs₀ (F := Bits)) = Cert.Kernel2.defs₀ (F := Bits) := by
  funext k l a
  cases k with
  | tc =>
    change Fin 1 at l
    obtain rfl : l = 0 := Subsingleton.elim _ _
    obtain ⟨t, s⟩ := a
    rfl
  | _ => rfl

theorem defs_eq : (letI := literal; Cert.Kernel2Ideal.defs (F := Bits)) = Cert.Kernel2.defs (F := Bits) :=
  congrArg (Pipeline.defs (Cert.Kernel2.pcfgs (F := Bits))) defs₀_eq

set_option maxHeartbeats 4000000 in
/-- The input call runs and leaves its arguments unchanged. -/
theorem frame : Cert.quiescent_Kernel2 (hKernel2 := Cert.Kernel2.Gen.facts) := fun m ρ _ => by
  letI := literal
  have h := Cert.Kernel2Ideal.Fr.frame (F := Bits) m ρ
  rw [show Cert.Kernel2Ideal.defs (F := Bits) = Cert.Kernel2.defs (F := Bits) from defs_eq] at h
  exact h

end Cert.Bits2

end
-- ==== Proof.Frames.lean ====
module

public import proofs.«01_k».proof.Defs
public import proofs.«01_k».proof.Proof.Gen.Kernel.Frame
public import proofs.«01_k».proof.Proof.Gen.KernelIdeal.Frame
public import proofs.«01_k».proof.Proof.Bits2
public import proofs.«01_k».proof.Proof.Frame2
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.ReferenceIdeal.Run
public import proofs.«01_k».proof.Proof.Gen.Reference3Ideal.Run

@[expose] public section

noncomputable section
namespace Cert.Frames
open Idealize.ShloMosaic Idealize.ShloMosaic.TcCoe

/-- The attention call runs and leaves its arguments unchanged. -/
theorem kernel : Cert.quiescent_Kernel (hKernel := Cert.Kernel.Gen.facts) := fun m ρ _ => Cert.Kernel.Gen.frame m ρ

/-- The idealized attention call runs and leaves its arguments unchanged. -/
theorem kernelIdeal : Cert.quiescent_KernelIdeal (hKernelIdeal := Cert.KernelIdeal.Gen.facts) := fun m ρ _ => Cert.KernelIdeal.Gen.frame m ρ

/-- The input call runs and leaves its arguments unchanged. -/
theorem kernel2 : Cert.quiescent_Kernel2 (hKernel2 := Cert.Kernel2.Gen.facts) := Cert.Bits2.frame

/-- The idealized input call runs and leaves its arguments unchanged. -/
theorem kernel2Ideal : Cert.quiescent_Kernel2Ideal (hKernel2Ideal := Cert.Kernel2Ideal.Gen.facts) := fun m ρ _ => Cert.Kernel2Ideal.Fr.frame m ρ

/-- The output call runs and leaves its arguments unchanged. -/
theorem kernel3 : Cert.quiescent_Kernel3 (hKernel3 := Cert.Kernel3.Gen.facts) := fun m ρ _ => Cert.Kernel3.Gen.frame m ρ

/-- The idealized output call runs and leaves its arguments unchanged. -/
theorem kernel3Ideal : Cert.quiescent_Kernel3Ideal (hKernel3Ideal := Cert.Kernel3Ideal.Gen.facts) := fun m ρ _ => Cert.Kernel3Ideal.Gen.frame m ρ

/-- The reference runs and leaves its arguments unchanged; it declares no semaphore. -/
theorem referenceIdeal : Cert.quiescent_ReferenceIdeal (hReferenceIdeal := Cert.ReferenceIdeal.Gen.facts) := fun m ρ _ =>
  (θ_run Cert.ReferenceIdeal.defs _ _).mono (fun r h => ⟨fun c => (h c).2.2.2.2.2,
      Idealize.ShloMosaic.sem_eq_zero_of_no_sems (by decide) r.2⟩) (Cert.ReferenceIdeal.Value.run m ρ)

/-- The reference runs and leaves its arguments unchanged; it declares no semaphore. -/
theorem reference3Ideal : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩) (Cert.Reference3Ideal.Value.run m ρ)

/-- The reference runs and leaves its arguments unchanged; it declares no semaphore. -/
theorem reference2Ideal : Cert.quiescent_Reference2Ideal (hReference2Ideal := Cert.Reference2Ideal.Gen.facts) := fun m ρ _ =>
  (θ_run Cert.Reference2Ideal.defs _ _).mono (fun r h => ⟨fun c => (h c).2.2.2.2,
      Idealize.ShloMosaic.sem_eq_zero_of_no_sems (by decide) r.2⟩) (Cert.Reference2Ideal.Value.run m ρ)

/-- The query factor's literal, stands for one over the product of the root of 64 and the logarithm of 2. -/
theorem preserves2 : Cert.preserves_Kernel2_Kernel2Ideal :=
  IdealRules.named_const.statement Cert.Kernel2Ideal.κ "qk_scale" .f32 0x3E38AA3B#32 (((Real.log 2)⁻¹ * (Real.sqrt 64)⁻¹ : ℝ) : EReal) rfl

/-- The mask's literal stands for minus infinity. -/
theorem preserves : Cert.preserves_Kernel_KernelIdeal :=
  IdealRules.named_const.statement Cert.KernelIdeal.κ "mask" .f32 0xF149F2CA#32 ⊥ rfl

end Cert.Frames

end
-- ==== Proof.Spec.lean ====
module

public import Idealize.ShloMosaic.Lib.Pipeline.Value
public import Idealize.ShloMosaic.Lib.Pipeline.ValueKit
public import Idealize.ShloMosaic.Lib.Pointwise

/-! Row by row, over the extended reals, what the layer's feed-forward calls compute: the root-mean-square norm, the gated
    feed-forward product, the gated sum of two projections. Both the kernels and the references are read as these. -/

@[expose] public section

noncomputable section

namespace Cert.Spec

open Idealize.ShloMosaic

/-- A row of 1024 scaled by the inverse root of its mean square (plus the literal added), times the norm's weights. -/
def rms (x g : Fin 1024 → EReal) (q : Fin 1024) : EReal :=
  x q * Ideal.rsqrt (Ideal.div (∑ k, x k * x k) (Ideal.ofBits FTy.f32 1149239296#32) + Ideal.ofBits FTy.f32 897988541#32) * g q

/-- One column of the hidden row: the gate product through `z · σ(z)`, times the other product. -/
def hid (h : Fin 1024 → EReal) (wg wu : Fin 1024 → Fin 2816 → EReal) (j : Fin 2816) : EReal :=
  (∑ k, h k * wg k j) * Ideal.logistic (∑ k, h k * wg k j) * ∑ k, h k * wu k j

/-- A row plus one half of the feed-forward product of the (normed) row `h`. -/
def ffn (x h : Fin 1024 → EReal) (wg wu : Fin 1024 → Fin 2816 → EReal) (wd : Fin 2816 → Fin 1024 → EReal) (q : Fin 1024) : EReal :=
  x q + Ideal.ofBits FTy.f32 1056964608#32 * ∑ j, hid h wg wu j * wd j q

/-- One column of the gated sum of the two projections. -/
def gated (ya yb : Fin 512 → EReal) (ga gb : Fin 1024 → EReal) (wa wb : Fin 512 → Fin 1024 → EReal) (q : Fin 1024) : EReal :=
  Ideal.logistic (ga q) * (∑ k, ya k * wa k q) + Ideal.logistic (gb q) * ∑ k, yb k * wb k q

/-- A row plus the output projection of its gated sum. -/
def mixed (x : Fin 1024 → EReal) (ya yb : Fin 512 → EReal) (ga gb : Fin 1024 → EReal) (wa wb : Fin 512 → Fin 1024 → EReal)
    (wo : Fin 1024 → Fin 1024 → EReal) (q : Fin 1024) : EReal :=
  x q + ∑ k, gated ya yb ga gb wa wb k * wo k q

theorem hz : (![0, 0] : Fin 2 → Nat) = fun _ => 0 := funext fun a => by fin_cases a <;> rfl

/-- A buffer filled piece by piece with the pieces of one array `G` and read back whole reads `G`. -/
theorem readCov_whole {Val : EltTy → Type} [∀ e, Nonempty (Val e)] {sig : RefSig} {κ : Kind} {sp : Space} {S : Shape} {e : EltTy}
    (v : View sig κ sp S e) (G : S.Idx → Val e) (L : List (View.Piece Val S e)) {off : Fin S.rank → Nat} (h : off = fun _ => 0)
    (inb : ∀ a, off a + S.size a ≤ S.size a) (hc : ∀ y, ∃ p ∈ L, y ∈ p.1.set)
    (hL : ∀ p ∈ L, ∀ x : p.1.shape.Idx, p.2 x = View.ld G p.1 x) :
    v.readCov L (Rect.unit off S.size inb).toLoadRect = G := by
  rw [View.readCov_eq_canon_ld v L _ hc, View.ld_unit_zero h]
  exact funext fun y => View.canon_apply_of_pieces G L hL y (hc y)

end Cert.Spec

end
-- ==== Proof.Spec2.lean ====
/- The input call's mathematics, row by row: the three results are columns of one product of the normed row. -/
module

public import proofs.«01_k».proof.Proof.Spec

@[expose] public section

noncomputable section
namespace Cert.Spec

open Idealize.ShloMosaic

/-- The factor of the query columns: one over the product of the root of 64 and the logarithm of 2. -/
def qkScale : EReal := (((Real.log 2)⁻¹ * (Real.sqrt 64)⁻¹ : ℝ) : EReal)

/-- One column of the product of the row `h`. -/
def proj (h : Fin 1024 → EReal) (w : Fin 1024 → Fin 4352 → EReal) (j : Fin 4352) : EReal := ∑ k, h k * w k j

/-- The first group of columns: 512 scaled ones, then 1024. -/
def qkva (h : Fin 1024 → EReal) (w : Fin 1024 → Fin 4352 → EReal) (q : Fin 1536) : EReal :=
  if q.val < 512 then proj h w ⟨q.val, by omega⟩ * qkScale else proj h w ⟨q.val, by omega⟩

/-- The second group: 512 scaled ones, then 256. -/
def qkvb (h : Fin 1024 → EReal) (w : Fin 1024 → Fin 4352 → EReal) (q : Fin 768) : EReal :=
  if q.val < 512 then proj h w ⟨1536 + q.val, by omega⟩ * qkScale else proj h w ⟨1536 + q.val, by omega⟩

/-- The last 2048 columns. -/
def gates (h : Fin 1024 → EReal) (w : Fin 1024 → Fin 4352 → EReal) (q : Fin 2048) : EReal := proj h w ⟨2304 + q.val, by omega⟩

end Cert.Spec

end
-- ==== Proof.Out2.lean ====
/- What the body of the input call stores, element by element, from the blocks it is given. -/
module

public import proofs.«01_k».proof.Proof.Frame2
public import Idealize.ShloMosaic.Lib.Pipeline.Value
public import Idealize.ShloMosaic.Lib.Pipeline.ValueKit
public import proofs.«01_k».proof.Proof.Spec2

@[expose] public section

set_option maxRecDepth 16384
noncomputable section
namespace Cert.Kernel2Ideal.Out
open Cert.Spec Cert.Kernel2Ideal Cert.Kernel2Ideal.Gen Cert.Kernel2Ideal.Fr Idealize.ShloMosaic Idealize.ShloMosaic.TcCoe Idealize.SL.Sem

/-- The normed row of a block. -/
def nrm (x0 : Vec Ideal S512x1024 .f32) (x1 : Vec Ideal S1x1024 .f32) (r : Fin 512) : Fin 1024 → EReal := rms (fun k => x0 (ix2 r k)) (fun k => x1 (ix2 0 k))

/-- The hidden block. -/
def hidB (x0 : Vec Ideal S512x1024 .f32) (x1 : Vec Ideal S1x1024 .f32) (x2 x3 : Vec Ideal S1024x2816 .bf16) : Vec Ideal S512x2816 .bf16 := fun i =>
  hid (nrm x0 x1 (i 0)) (fun a b => x2 (ix2 a b)) (fun a b => x3 (ix2 a b)) (i 1)

/-- The first output's row of a block. -/
def row1 (x0 : Vec Ideal S512x1024 .f32) (x1 : Vec Ideal S1x1024 .f32) (x2 x3 : Vec Ideal S1024x2816 .bf16) (x4 : Vec Ideal S2816x1024 .bf16) (r : Fin 512) : Fin 1024 → EReal :=
  ffn (fun k => x0 (ix2 r k)) (nrm x0 x1 r) (fun a b => x2 (ix2 a b)) (fun a b => x3 (ix2 a b)) (fun a b => x4 (ix2 a b))

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x4352 .bf16) (harg7 : arg7.IsWhole) (arg8 : Memref sig .tc .vmem S512x1024 .f32) (harg8 : arg8.IsWhole) (arg9 : Memref sig .tc .vmem S512x1536 .bf16) (harg9 : arg9.IsWhole) (arg10 : Memref sig .tc .vmem S512x768 .bf16) (harg10 : arg10.IsWhole) (arg11 : Memref sig .tc .vmem S512x2048 .bf16) (harg11 : arg11.IsWhole) (arg12 : Memref sig .tc .vmem S512x2816 .bf16) (harg12 : arg12.IsWhole) (arg13 : Memref sig .tc .vmem S512x1024 .bf16) (harg13 : arg13.IsWhole)

theorem out_A_7 (hc0 : cond0_0 i) (hc1 : ¬cond0_1 i) (hc2 : ¬cond0_2 i) (x0 : Vec Ideal S512x1024 .f32) (x1 : Vec Ideal S1x1024 .f32) (x2 : Vec Ideal S1024x2816 .bf16) (x3 : Vec Ideal S1024x2816 .bf16) (x4 : Vec Ideal S2816x1024 .bf16) (x5 : Vec Ideal S1x1024 .f32) (x6 : Vec Ideal S1024x4352 .bf16) (r : Fin 512) (q : Fin 1024) :
    out0_A_7 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 (ix2 r q) = row1 x0 x1 x2 x3 x4 r q := by
  unfold out0_A_7
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg13.read_unread, View.ld_unit_zero (S := S512x1024) hz, View.ld_unit_zero (S := S1x1024) hz, View.ld_unit_zero (S := S2816x1024) hz, View.ld_unit_zero (S := S512x2816) hz]
  rw [readCov_whole arg12.view (hidB x0 x1 x2 x3) _ hz inb_S512x2816_S512x2816_0_0 (View.cover_of_tiled_head _ _ _ rfl)]
  rotate_left
  · simp only [List.forall_mem_cons, List.not_mem_nil, false_implies, implies_true, and_true]
    refine ⟨?_, ?_, ?_, ?_, ?_, ?_, ?_, ?_, ?_, ?_, ?_⟩ <;> (intro y; idx_vars y; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, hidB]; simp only [hid, nrm, rms])
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, hidB]
  simp only [row1, ffn, nrm, rms, hidB]
  try rfl

theorem sout_A_1 (hc0 : cond0_0 i) (hc1 : ¬cond0_1 i) (hc2 : ¬cond0_2 i) (x0 : Vec Ideal S512x1024 .f32) (x1 : Vec Ideal S1x1024 .f32) (x2 : Vec Ideal S1024x2816 .bf16) (x3 : Vec Ideal S1024x2816 .bf16) (x4 : Vec Ideal S2816x1024 .bf16) (x5 : Vec Ideal S1x1024 .f32) (x6 : Vec Ideal S1024x4352 .bf16) (r : Fin 512) (q : Fin 1024) :
    sout0_A_1 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 (ix2 r q) = rms (row1 x0 x1 x2 x3 x4 r) (fun k => x5 (ix2 0 k)) q := by
  unfold sout0_A_1
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg13.read_unread, View.ld_unit_zero (S := S512x1024) hz, View.ld_unit_zero (S := S1x1024) hz, View.ld_unit_zero (S := S2816x1024) hz, View.ld_unit_zero (S := S512x2816) hz]
  rw [readCov_whole arg12.view (hidB x0 x1 x2 x3) _ hz inb_S512x2816_S512x2816_0_0 (View.cover_of_tiled_head _ _ _ rfl)]
  rotate_left
  · simp only [List.forall_mem_cons, List.not_mem_nil, false_implies, implies_true, and_true]
    refine ⟨?_, ?_, ?_, ?_, ?_, ?_, ?_, ?_, ?_, ?_, ?_⟩ <;> (intro y; idx_vars y; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, hidB]; simp only [hid, nrm, rms])
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, hidB]
  simp only [row1, ffn, nrm, rms, hidB]
  try rfl

theorem out_B_7 (hc0 : ¬cond0_0 i) (hc1 : cond0_1 i) (hc2 : ¬cond0_2 i) (x0 : Vec Ideal S512x1024 .f32) (x1 : Vec Ideal S1x1024 .f32) (x2 : Vec Ideal S1024x2816 .bf16) (x3 : Vec Ideal S1024x2816 .bf16) (x4 : Vec Ideal S2816x1024 .bf16) (x5 : Vec Ideal S1x1024 .f32) (x6 : Vec Ideal S1024x4352 .bf16) (xs1 : Vec Ideal S512x1024 .bf16) (r : Fin 512) (q : Fin 1024) :
    out0_B_7 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1 (ix2 r q) = row1 x0 x1 x2 x3 x4 r q := by
  unfold out0_B_7
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg13.read_unread, View.ld_unit_zero (S := S512x1024) hz, View.ld_unit_zero (S := S1x1024) hz, View.ld_unit_zero (S := S2816x1024) hz, View.ld_unit_zero (S := S512x2816) hz]
  rw [readCov_whole arg12.view (hidB x0 x1 x2 x3) _ hz inb_S512x2816_S512x2816_0_0 (View.cover_of_tiled_head _ _ _ rfl)]
  rotate_left
  · simp only [List.forall_mem_cons, List.not_mem_nil, false_implies, implies_true, and_true]
    refine ⟨?_, ?_, ?_, ?_, ?_, ?_, ?_, ?_, ?_, ?_, ?_⟩ <;> (intro y; idx_vars y; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, hidB]; simp only [hid, nrm, rms])
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, hidB]
  simp only [row1, ffn, nrm, rms, hidB]
  try rfl

theorem sout_B_1 (hc0 : ¬cond0_0 i) (hc1 : cond0_1 i) (hc2 : ¬cond0_2 i) (x0 : Vec Ideal S512x1024 .f32) (x1 : Vec Ideal S1x1024 .f32) (x2 : Vec Ideal S1024x2816 .bf16) (x3 : Vec Ideal S1024x2816 .bf16) (x4 : Vec Ideal S2816x1024 .bf16) (x5 : Vec Ideal S1x1024 .f32) (x6 : Vec Ideal S1024x4352 .bf16) (xs1 : Vec Ideal S512x1024 .bf16) (r : Fin 512) (q : Fin 1024) :
    sout0_B_1 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1 (ix2 r q) = rms (row1 x0 x1 x2 x3 x4 r) (fun k => x5 (ix2 0 k)) q := by
  unfold sout0_B_1
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg13.read_unread, View.ld_unit_zero (S := S512x1024) hz, View.ld_unit_zero (S := S1x1024) hz, View.ld_unit_zero (S := S2816x1024) hz, View.ld_unit_zero (S := S512x2816) hz]
  rw [readCov_whole arg12.view (hidB x0 x1 x2 x3) _ hz inb_S512x2816_S512x2816_0_0 (View.cover_of_tiled_head _ _ _ rfl)]
  rotate_left
  · simp only [List.forall_mem_cons, List.not_mem_nil, false_implies, implies_true, and_true]
    refine ⟨?_, ?_, ?_, ?_, ?_, ?_, ?_, ?_, ?_, ?_, ?_⟩ <;> (intro y; idx_vars y; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, hidB]; simp only [hid, nrm, rms])
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, hidB]
  simp only [row1, ffn, nrm, rms, hidB]
  try rfl

end Cert.Kernel2Ideal.Out

end
-- ==== Proof.Prj2.lean ====
/- What the projections of the input call store, element by element. -/
module

public import proofs.«01_k».proof.Proof.Frame2
public import Idealize.ShloMosaic.Lib.Pipeline.Value
public import Idealize.ShloMosaic.Lib.Pipeline.ValueKit
public import proofs.«01_k».proof.Proof.Spec2

@[expose] public section

set_option maxRecDepth 16384
noncomputable section
namespace Cert.Kernel2Ideal.Out
open Cert.Spec Cert.Kernel2Ideal Cert.Kernel2Ideal.Gen Cert.Kernel2Ideal.Fr Idealize.ShloMosaic Idealize.ShloMosaic.TcCoe Idealize.SL.Sem

/-- The qkva block. -/
def prj8 (xs1 : Vec Ideal S512x1024 .bf16) (x6 : Vec Ideal S1024x4352 .bf16) : Vec Ideal S512x1536 .bf16 := fun i =>
  qkva (fun k => xs1 (ix2 (i 0) k)) (fun a b => x6 (ix2 a b)) (i 1)

/-- The qkvb block. -/
def prj9 (xs1 : Vec Ideal S512x1024 .bf16) (x6 : Vec Ideal S1024x4352 .bf16) : Vec Ideal S512x768 .bf16 := fun i =>
  qkvb (fun k => xs1 (ix2 (i 0) k)) (fun a b => x6 (ix2 a b)) (i 1)

/-- The gates block. -/
def prj10 (xs1 : Vec Ideal S512x1024 .bf16) (x6 : Vec Ideal S1024x4352 .bf16) : Vec Ideal S512x2048 .bf16 := fun i =>
  gates (fun k => xs1 (ix2 (i 0) k)) (fun a b => x6 (ix2 a b)) (i 1)

/-- The named factor is `qkScale`. -/
theorem named_scale : Named.named (F := Ideal) κ "qk_scale" (φ := .f32) 0x3E38AA3B#32 = qkScale :=
  (IdealRules.named_const.statement Cert.Kernel2Ideal.κ "qk_scale" .f32 0x3E38AA3B#32 qkScale rfl).2.2

/-- An index of two axes from its coordinates. -/
theorem ix2_eq {n m : Nat} {a : Fin n} {b : Fin m} {i : Shape.Idx ⟨2, ![n, m]⟩} (h0 : a.val = (i 0).val) (h1 : b.val = (i 1).val) :
    ix2 a b = i := by
  funext k
  match k with
  | 0 => exact Fin.ext h0
  | 1 => exact Fin.ext h1

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1024x4352 .bf16) (harg7 : arg7.IsWhole) (arg8 : Memref sig .tc .vmem S512x1024 .f32) (harg8 : arg8.IsWhole) (arg9 : Memref sig .tc .vmem S512x1536 .bf16) (harg9 : arg9.IsWhole) (arg10 : Memref sig .tc .vmem S512x768 .bf16) (harg10 : arg10.IsWhole) (arg11 : Memref sig .tc .vmem S512x2048 .bf16) (harg11 : arg11.IsWhole) (arg12 : Memref sig .tc .vmem S512x2816 .bf16) (harg12 : arg12.IsWhole) (arg13 : Memref sig .tc .vmem S512x1024 .bf16) (harg13 : arg13.IsWhole)

theorem out_B_8 (hc0 : ¬cond0_0 i) (hc1 : cond0_1 i) (hc2 : ¬cond0_2 i) (x0 : Vec Ideal S512x1024 .f32) (x1 : Vec Ideal S1x1024 .f32) (x2 : Vec Ideal S1024x2816 .bf16) (x3 : Vec Ideal S1024x2816 .bf16) (x4 : Vec Ideal S2816x1024 .bf16) (x5 : Vec Ideal S1x1024 .f32) (x6 : Vec Ideal S1024x4352 .bf16) (xs1 : Vec Ideal S512x1024 .bf16) (r : Fin 512) (q : Fin 1536) :
    out0_B_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1 (ix2 r q) = qkva (fun k => xs1 (ix2 r k)) (fun a b => x6 (ix2 a b)) q := by
  unfold out0_B_8
  rw [View.read_writes_junk_eq_canon]
  refine (View.canon_apply_of_pieces (prj8 xs1 x6) _ ?_ (ix2 r q) (cover0_B_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1 (ix2 r q))).trans rfl
  unfold kernelRun0_B
  dsimp only
  sl_unfold_words
  simp only [View.readAt_eq_ld, harg1.read_unread, harg2.read_unread, harg3.read_unread, harg4.read_unread, harg5.read_unread, harg6.read_unread, harg7.read_unread, harg13.read_unread, View.ld_unit_zero (S := S512x1024) hz, View.ld_unit_zero (S := S1x1024) hz, View.ld_unit_zero (S := S2816x1024) hz, View.ld_unit_zero (S := S512x2816) hz]
  simp only [List.forall_mem_cons, List.not_mem_nil, false_implies, implies_true, and_true]
  refine ⟨?_, ?_⟩
  · intro y
    idx_vars y
    refine Eq.trans ?_ (congrArg (prj8 xs1 x6) (ix2_eq (a := y0) (b := (⟨512 + y1.val, by have := y1.isLt; omega⟩ : Fin 1536)) ?_ ?_))
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, prj8]
      simp only [qkva, proj]
      rw [if_neg (by simp)]
      skip
      skip
      try
        refine Finset.sum_congr rfl fun k _ => congrArg (fun z => xs1 (ix2 y0 k) * x6 (ix2 k z)) (Fin.ext ?_)
        simp <;> omega
    · simp [ValueKit.rect_emb_unit_val]
    · simp [ValueKit.rect_emb_unit_val]
  · intro y
    idx_vars y
    refine Eq.trans ?_ (congrArg (prj8 xs1 x6) (ix2_eq (a := y0) (b := (⟨0 + y1.val, by have := y1.isLt; omega⟩ : Fin 1536)) ?_ ?_))
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, prj8]
      simp only [qkva, proj]
      rw [if_pos (by have := y1.isLt; simpa using this)]
      rw [named_scale]
      try refine congrArg (fun z => z * qkScale) ?_
      try
        refine Finset.sum_congr rfl fun k _ => congrArg (fun z => xs1 (ix2 y0 k) * x6 (ix2 k z)) (Fin.ext ?_)
        simp <;> omega
    · simp [ValueKit.rect_emb_unit_val]
    · simp [ValueKit.rect_emb_unit_val]

theorem out_B_9 (hc0 : ¬cond0_0 i) (hc1 : cond0_1 i) (hc2 : ¬cond0_2 i) (x0 : Vec Ideal S512x1024 .f32) (x1 : Vec Ideal S1x1024 .f32) (x2 : Vec Ideal S1024x2816 .bf16) (x3 : Vec Ideal S1024x2816 .bf16) (x4 : Vec Ideal S2816x1024 .bf16) (x5 : Vec Ideal S1x1024 .f32) (x6 : Vec Ideal S1024x4352 .bf16) (xs1 : Vec Ideal S512x1024 .bf16) (r : Fin 512) (q : Fin 768) :
    out0_B_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1 (ix2 r q) = qkvb (fun k => xs1 (ix2 r k)) (fun a b => x6 (ix2 a b)) q := by
  unfold out0_B_9
  rw [View.read_writes_junk_eq_canon]
  refine (View.canon_apply_of_pieces (prj9 xs1 x6) _ ?_ (ix2 r q) (cover0_B_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1 (ix2 r q))).trans rfl
  unfold kernelRun0_B
  dsimp only
  sl_unfold_words
  simp only [View.readAt_eq_ld, harg1.read_unread, harg2.read_unread, harg3.read_unread, harg4.read_unread, harg5.read_unread, harg6.read_unread, harg7.read_unread, harg13.read_unread, View.ld_unit_zero (S := S512x1024) hz, View.ld_unit_zero (S := S1x1024) hz, View.ld_unit_zero (S := S2816x1024) hz, View.ld_unit_zero (S := S512x2816) hz]
  simp only [List.forall_mem_cons, List.not_mem_nil, false_implies, implies_true, and_true]
  refine ⟨?_, ?_⟩
  · intro y
    idx_vars y
    refine Eq.trans ?_ (congrArg (prj9 xs1 x6) (ix2_eq (a := y0) (b := (⟨512 + y1.val, by have := y1.isLt; omega⟩ : Fin 768)) ?_ ?_))
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, prj9]
      simp only [qkvb, proj]
      rw [if_neg (by simp)]
      skip
      skip
      try
        refine Finset.sum_congr rfl fun k _ => congrArg (fun z => xs1 (ix2 y0 k) * x6 (ix2 k z)) (Fin.ext ?_)
        simp <;> omega
    · simp [ValueKit.rect_emb_unit_val]
    · simp [ValueKit.rect_emb_unit_val]
  · intro y
    idx_vars y
    refine Eq.trans ?_ (congrArg (prj9 xs1 x6) (ix2_eq (a := y0) (b := (⟨0 + y1.val, by have := y1.isLt; omega⟩ : Fin 768)) ?_ ?_))
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, prj9]
      simp only [qkvb, proj]
      rw [if_pos (by have := y1.isLt; simpa using this)]
      rw [named_scale]
      try refine congrArg (fun z => z * qkScale) ?_
      try
        refine Finset.sum_congr rfl fun k _ => congrArg (fun z => xs1 (ix2 y0 k) * x6 (ix2 k z)) (Fin.ext ?_)
        simp <;> omega
    · simp [ValueKit.rect_emb_unit_val]
    · simp [ValueKit.rect_emb_unit_val]

theorem out_B_10 (hc0 : ¬cond0_0 i) (hc1 : cond0_1 i) (hc2 : ¬cond0_2 i) (x0 : Vec Ideal S512x1024 .f32) (x1 : Vec Ideal S1x1024 .f32) (x2 : Vec Ideal S1024x2816 .bf16) (x3 : Vec Ideal S1024x2816 .bf16) (x4 : Vec Ideal S2816x1024 .bf16) (x5 : Vec Ideal S1x1024 .f32) (x6 : Vec Ideal S1024x4352 .bf16) (xs1 : Vec Ideal S512x1024 .bf16) (r : Fin 512) (q : Fin 2048) :
    out0_B_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1 (ix2 r q) = gates (fun k => xs1 (ix2 r k)) (fun a b => x6 (ix2 a b)) q := by
  unfold out0_B_10
  rw [View.read_writes_junk_eq_canon]
  refine (View.canon_apply_of_pieces (prj10 xs1 x6) _ ?_ (ix2 r q) (cover0_B_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1 (ix2 r q))).trans rfl
  unfold kernelRun0_B
  dsimp only
  sl_unfold_words
  simp only [View.readAt_eq_ld, harg1.read_unread, harg2.read_unread, harg3.read_unread, harg4.read_unread, harg5.read_unread, harg6.read_unread, harg7.read_unread, harg13.read_unread, View.ld_unit_zero (S := S512x1024) hz, View.ld_unit_zero (S := S1x1024) hz, View.ld_unit_zero (S := S2816x1024) hz, View.ld_unit_zero (S := S512x2816) hz]
  simp only [List.forall_mem_cons, List.not_mem_nil, false_implies, implies_true, and_true]
  · intro y
    idx_vars y
    refine Eq.trans ?_ (congrArg (prj10 xs1 x6) (ix2_eq (a := y0) (b := (⟨0 + y1.val, by have := y1.isLt; omega⟩ : Fin 2048)) ?_ ?_))
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, prj10]
      simp only [gates, proj]
      skip
      skip
      try
        refine Finset.sum_congr rfl fun k _ => congrArg (fun z => xs1 (ix2 y0 k) * x6 (ix2 k z)) (Fin.ext ?_)
        simp <;> omega
    · simp [ValueKit.rect_emb_unit_val]
    · simp [ValueKit.rect_emb_unit_val]

theorem out_C_8 (hc0 : ¬cond0_0 i) (hc1 : ¬cond0_1 i) (hc2 : cond0_2 i) (x0 : Vec Ideal S512x1024 .f32) (x1 : Vec Ideal S1x1024 .f32) (x2 : Vec Ideal S1024x2816 .bf16) (x3 : Vec Ideal S1024x2816 .bf16) (x4 : Vec Ideal S2816x1024 .bf16) (x5 : Vec Ideal S1x1024 .f32) (x6 : Vec Ideal S1024x4352 .bf16) (xs1 : Vec Ideal S512x1024 .bf16) (r : Fin 512) (q : Fin 1536) :
    out0_C_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1 (ix2 r q) = qkva (fun k => xs1 (ix2 r k)) (fun a b => x6 (ix2 a b)) q := by
  unfold out0_C_8
  rw [View.read_writes_junk_eq_canon]
  refine (View.canon_apply_of_pieces (prj8 xs1 x6) _ ?_ (ix2 r q) (cover0_C_8 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1 (ix2 r q))).trans rfl
  unfold kernelRun0_C
  dsimp only
  sl_unfold_words
  simp only [View.readAt_eq_ld, harg1.read_unread, harg2.read_unread, harg3.read_unread, harg4.read_unread, harg5.read_unread, harg6.read_unread, harg7.read_unread, harg13.read_unread, View.ld_unit_zero (S := S512x1024) hz, View.ld_unit_zero (S := S1x1024) hz, View.ld_unit_zero (S := S2816x1024) hz, View.ld_unit_zero (S := S512x2816) hz]
  simp only [List.forall_mem_cons, List.not_mem_nil, false_implies, implies_true, and_true]
  refine ⟨?_, ?_⟩
  · intro y
    idx_vars y
    refine Eq.trans ?_ (congrArg (prj8 xs1 x6) (ix2_eq (a := y0) (b := (⟨512 + y1.val, by have := y1.isLt; omega⟩ : Fin 1536)) ?_ ?_))
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, prj8]
      simp only [qkva, proj]
      rw [if_neg (by simp)]
      skip
      skip
      try
        refine Finset.sum_congr rfl fun k _ => congrArg (fun z => xs1 (ix2 y0 k) * x6 (ix2 k z)) (Fin.ext ?_)
        simp <;> omega
    · simp [ValueKit.rect_emb_unit_val]
    · simp [ValueKit.rect_emb_unit_val]
  · intro y
    idx_vars y
    refine Eq.trans ?_ (congrArg (prj8 xs1 x6) (ix2_eq (a := y0) (b := (⟨0 + y1.val, by have := y1.isLt; omega⟩ : Fin 1536)) ?_ ?_))
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, prj8]
      simp only [qkva, proj]
      rw [if_pos (by have := y1.isLt; simpa using this)]
      rw [named_scale]
      try refine congrArg (fun z => z * qkScale) ?_
      try
        refine Finset.sum_congr rfl fun k _ => congrArg (fun z => xs1 (ix2 y0 k) * x6 (ix2 k z)) (Fin.ext ?_)
        simp <;> omega
    · simp [ValueKit.rect_emb_unit_val]
    · simp [ValueKit.rect_emb_unit_val]

theorem out_C_9 (hc0 : ¬cond0_0 i) (hc1 : ¬cond0_1 i) (hc2 : cond0_2 i) (x0 : Vec Ideal S512x1024 .f32) (x1 : Vec Ideal S1x1024 .f32) (x2 : Vec Ideal S1024x2816 .bf16) (x3 : Vec Ideal S1024x2816 .bf16) (x4 : Vec Ideal S2816x1024 .bf16) (x5 : Vec Ideal S1x1024 .f32) (x6 : Vec Ideal S1024x4352 .bf16) (xs1 : Vec Ideal S512x1024 .bf16) (r : Fin 512) (q : Fin 768) :
    out0_C_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1 (ix2 r q) = qkvb (fun k => xs1 (ix2 r k)) (fun a b => x6 (ix2 a b)) q := by
  unfold out0_C_9
  rw [View.read_writes_junk_eq_canon]
  refine (View.canon_apply_of_pieces (prj9 xs1 x6) _ ?_ (ix2 r q) (cover0_C_9 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1 (ix2 r q))).trans rfl
  unfold kernelRun0_C
  dsimp only
  sl_unfold_words
  simp only [View.readAt_eq_ld, harg1.read_unread, harg2.read_unread, harg3.read_unread, harg4.read_unread, harg5.read_unread, harg6.read_unread, harg7.read_unread, harg13.read_unread, View.ld_unit_zero (S := S512x1024) hz, View.ld_unit_zero (S := S1x1024) hz, View.ld_unit_zero (S := S2816x1024) hz, View.ld_unit_zero (S := S512x2816) hz]
  simp only [List.forall_mem_cons, List.not_mem_nil, false_implies, implies_true, and_true]
  refine ⟨?_, ?_⟩
  · intro y
    idx_vars y
    refine Eq.trans ?_ (congrArg (prj9 xs1 x6) (ix2_eq (a := y0) (b := (⟨512 + y1.val, by have := y1.isLt; omega⟩ : Fin 768)) ?_ ?_))
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, prj9]
      simp only [qkvb, proj]
      rw [if_neg (by simp)]
      skip
      skip
      try
        refine Finset.sum_congr rfl fun k _ => congrArg (fun z => xs1 (ix2 y0 k) * x6 (ix2 k z)) (Fin.ext ?_)
        simp <;> omega
    · simp [ValueKit.rect_emb_unit_val]
    · simp [ValueKit.rect_emb_unit_val]
  · intro y
    idx_vars y
    refine Eq.trans ?_ (congrArg (prj9 xs1 x6) (ix2_eq (a := y0) (b := (⟨0 + y1.val, by have := y1.isLt; omega⟩ : Fin 768)) ?_ ?_))
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, prj9]
      simp only [qkvb, proj]
      rw [if_pos (by have := y1.isLt; simpa using this)]
      rw [named_scale]
      try refine congrArg (fun z => z * qkScale) ?_
      try
        refine Finset.sum_congr rfl fun k _ => congrArg (fun z => xs1 (ix2 y0 k) * x6 (ix2 k z)) (Fin.ext ?_)
        simp <;> omega
    · simp [ValueKit.rect_emb_unit_val]
    · simp [ValueKit.rect_emb_unit_val]

theorem out_C_10 (hc0 : ¬cond0_0 i) (hc1 : ¬cond0_1 i) (hc2 : cond0_2 i) (x0 : Vec Ideal S512x1024 .f32) (x1 : Vec Ideal S1x1024 .f32) (x2 : Vec Ideal S1024x2816 .bf16) (x3 : Vec Ideal S1024x2816 .bf16) (x4 : Vec Ideal S2816x1024 .bf16) (x5 : Vec Ideal S1x1024 .f32) (x6 : Vec Ideal S1024x4352 .bf16) (xs1 : Vec Ideal S512x1024 .bf16) (r : Fin 512) (q : Fin 2048) :
    out0_C_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1 (ix2 r q) = gates (fun k => xs1 (ix2 r k)) (fun a b => x6 (ix2 a b)) q := by
  unfold out0_C_10
  rw [View.read_writes_junk_eq_canon]
  refine (View.canon_apply_of_pieces (prj10 xs1 x6) _ ?_ (ix2 r q) (cover0_C_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 xs1 (ix2 r q))).trans rfl
  unfold kernelRun0_C
  dsimp only
  sl_unfold_words
  simp only [View.readAt_eq_ld, harg1.read_unread, harg2.read_unread, harg3.read_unread, harg4.read_unread, harg5.read_unread, harg6.read_unread, harg7.read_unread, harg13.read_unread, View.ld_unit_zero (S := S512x1024) hz, View.ld_unit_zero (S := S1x1024) hz, View.ld_unit_zero (S := S2816x1024) hz, View.ld_unit_zero (S := S512x2816) hz]
  simp only [List.forall_mem_cons, List.not_mem_nil, false_implies, implies_true, and_true]
  · intro y
    idx_vars y
    refine Eq.trans ?_ (congrArg (prj10 xs1 x6) (ix2_eq (a := y0) (b := (⟨0 + y1.val, by have := y1.isLt; omega⟩ : Fin 2048)) ?_ ?_))
    · pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, prj10]
      simp only [gates, proj]
      skip
      skip
      try
        refine Finset.sum_congr rfl fun k _ => congrArg (fun z => xs1 (ix2 y0 k) * x6 (ix2 k z)) (Fin.ext ?_)
        simp <;> omega
    · simp [ValueKit.rect_emb_unit_val]
    · simp [ValueKit.rect_emb_unit_val]

end Cert.Kernel2Ideal.Out

end
-- ==== Proof.Blk2.lean ====
/- The blocks of the input call's operands and results, as entries of the arguments. -/
module

public import proofs.«01_k».proof.Proof.Out2
public import proofs.«01_k».proof.Proof.Prj2
public import Idealize.ShloMosaic.Lib.Pointwise

@[expose] public section

set_option maxRecDepth 16384
noncomputable section
namespace Cert.Kernel2Ideal.Out
open Cert.Spec Cert.Kernel2Ideal Cert.Kernel2Ideal.Gen Cert.Kernel2Ideal.Fr Idealize.ShloMosaic Idealize.ShloMosaic.TcCoe Idealize.SL.Sem

variable (m : (ℓ : Loc nD τ sig) → Buf (Elt Ideal) ℓ)

theorem idxRow : ∀ t : Fin cfg0.N, win0_0.index t = ![min t.val 63, 0] := by decide +kernel
theorem idxFix : ∀ t : Fin cfg0.N, (win0_1.index t = ![0, 0] ∧ win0_2.index t = ![0, 0] ∧ win0_3.index t = ![0, 0]
    ∧ win0_4.index t = ![0, 0] ∧ win0_5.index t = ![0, 0] ∧ win0_6.index t = ![0, 0]) := by decide +kernel
theorem idxOut : ∀ t : Fin cfg0.N, (win0_7.index t = ![min t.val 63, 0] ∧ win0_8.index t = ![t.val - 1, 0] ∧ win0_9.index t = ![t.val - 1, 0]
    ∧ win0_10.index t = ![t.val - 1, 0]) := by decide +kernel
theorem flushOut : ∀ t : Fin cfg0.N, ∀ w : Fin 11, 8 ≤ w.val → (cfg0.win w).flush t = true → 1 ≤ t.val := by decide +kernel

/-- Row `R` of the tokens: the batch's 16 sequences of 2048 one after the other. -/
def tok (c : Dev nD) (R : Fin 32768) (q : Fin 1024) : EReal :=
  m ((c : Thread nD τ).loc main_arg0) (ix3 (⟨R.val / 2048, by omega⟩ : Fin 16) (⟨R.val % 2048, by omega⟩ : Fin 2048) q)

theorem blk0 (c : Dev nD) (t : Fin cfg0.N) (ht : t.val ≤ 63) (r : Fin 512) (q : Fin 1024) (R : Fin 32768) (hR : R.val = 512 * t.val + r.val) :
    iblk m c 0 t (ix2 r q) = tok m c R q := by
  have h0 := idxRow t
  unfold tok
  blk_ext! [iblk, V, h0]

theorem blk1 (c : Dev nD) (t : Fin cfg0.N) (a : Fin 1) (b : Fin 1024) : iblk m c 1 t (ix2 a b) = m ((c : Thread nD τ).loc main_arg1) (ix1 b) := by
  obtain ⟨h1, h2, h3, h4, h5, h6⟩ := idxFix t
  blk_ext! [iblk, V, h1]

theorem blk2 (c : Dev nD) (t : Fin cfg0.N) (a : Fin 1024) (b : Fin 2816) : iblk m c 2 t (ix2 a b) = m ((c : Thread nD τ).loc main_arg2) (ix2 a b) := by
  obtain ⟨h1, h2, h3, h4, h5, h6⟩ := idxFix t
  blk_ext! [iblk, V, h2]

theorem blk3 (c : Dev nD) (t : Fin cfg0.N) (a : Fin 1024) (b : Fin 2816) : iblk m c 3 t (ix2 a b) = m ((c : Thread nD τ).loc main_arg3) (ix2 a b) := by
  obtain ⟨h1, h2, h3, h4, h5, h6⟩ := idxFix t
  blk_ext! [iblk, V, h3]

theorem blk4 (c : Dev nD) (t : Fin cfg0.N) (a : Fin 2816) (b : Fin 1024) : iblk m c 4 t (ix2 a b) = m ((c : Thread nD τ).loc main_arg4) (ix2 a b) := by
  obtain ⟨h1, h2, h3, h4, h5, h6⟩ := idxFix t
  blk_ext! [iblk, V, h4]

theorem blk5 (c : Dev nD) (t : Fin cfg0.N) (a : Fin 1) (b : Fin 1024) : iblk m c 5 t (ix2 a b) = m ((c : Thread nD τ).loc main_arg5) (ix1 b) := by
  obtain ⟨h1, h2, h3, h4, h5, h6⟩ := idxFix t
  blk_ext! [iblk, V, h5]

theorem blk6 (c : Dev nD) (t : Fin cfg0.N) (a : Fin 1024) (b : Fin 4352) : iblk m c 6 t (ix2 a b) = m ((c : Thread nD τ).loc main_arg6) (ix2 a b) := by
  obtain ⟨h1, h2, h3, h4, h5, h6⟩ := idxFix t
  blk_ext! [iblk, V, h6]

end Cert.Kernel2Ideal.Out

end
-- ==== Proof.Final2.lean ====
/- The four arrays the input call leaves. -/
module

public import proofs.«01_k».proof.Proof.Blk2

@[expose] public section

set_option maxRecDepth 16384
noncomputable section
namespace Cert.Kernel2Ideal.Out
open Cert.Spec Cert.Kernel2Ideal Cert.Kernel2Ideal.Gen Cert.Kernel2Ideal.Fr Idealize.ShloMosaic Idealize.ShloMosaic.TcCoe Idealize.SL.Sem

variable (m : (ℓ : Loc nD τ sig) → Buf (Elt Ideal) ℓ)

/-- Row `R` of the first result: the feed-forward of the normed tokens, added to them by half. -/
def x1row (c : Dev nD) (R : Fin 32768) : Fin 1024 → EReal :=
  ffn (tok m c R) (rms (tok m c R) (fun k => m ((c : Thread nD τ).loc main_arg1) (ix1 k))) (fun a b => m ((c : Thread nD τ).loc main_arg2) (ix2 a b)) (fun a b => m ((c : Thread nD τ).loc main_arg3) (ix2 a b))
    (fun a b => m ((c : Thread nD τ).loc main_arg4) (ix2 a b))

/-- Row `R` of the first result, normed. -/
def hrow (c : Dev nD) (R : Fin 32768) : Fin 1024 → EReal := rms (x1row m c R) (fun k => m ((c : Thread nD τ).loc main_arg5) (ix1 k))

def res7 (c : Dev nD) (i : S32768x1024.Idx) : EReal := x1row m c (i 0) (i 1)
def res8 (c : Dev nD) (i : S32768x1536.Idx) : EReal := qkva (hrow m c (i 0)) (fun a b => m ((c : Thread nD τ).loc main_arg6) (ix2 a b)) (i 1)
def res9 (c : Dev nD) (i : S32768x768.Idx) : EReal := qkvb (hrow m c (i 0)) (fun a b => m ((c : Thread nD τ).loc main_arg6) (ix2 a b)) (i 1)
def res10 (c : Dev nD) (i : S32768x2048.Idx) : EReal := gates (hrow m c (i 0)) (fun a b => m ((c : Thread nD τ).loc main_arg6) (ix2 a b)) (i 1)

theorem row1_eq (c : Dev nD) (t : Fin cfg0.N) (ht : t.val ≤ 63) (r : Fin 512) (R : Fin 32768) (hR : R.val = 512 * t.val + r.val) :
    row1 (iblk m c 0 t) (iblk m c 1 t) (iblk m c 2 t) (iblk m c 3 t) (iblk m c 4 t) r = x1row m c R := by
  unfold row1 nrm x1row
  simp only [blk0 m c t ht r _ R hR, blk1, blk2, blk3, blk4]

/-- After one of the first 64 points: its rows of the first result, and the same normed, kept for the next point. -/
theorem carried (c : Dev nD) (t : Fin cfg0.N) (ht : t.val ≤ 63) (r : Fin 512) (q : Fin 1024) (R : Fin 32768) (hR : R.val = 512 * t.val + r.val) :
    (outsAt0 m c t.val t.isLt).1 (ix2 r q) = x1row m c R q ∧ (outsAt0 m c t.val t.isLt).2.2.2.2 (ix2 r q) = hrow m c R q := by
  have h1 := row1_eq m c t ht r R hR
  by_cases h0 : t.val = 0
  · rw [outsAt0_A m c t h0]
    unfold atA
    dsimp only
    rw [out_A_7, sout_A_1, h1]
    exact ⟨rfl, by unfold hrow; simp only [blk5]⟩
  · rw [outsAt0_B m c t h0 (by omega)]
    unfold atB
    dsimp only
    rw [out_B_7, sout_B_1, h1]
    exact ⟨rfl, by unfold hrow; simp only [blk5]⟩

theorem last7 (c : Dev nD) (t : Fin cfg0.N) (r : Fin 512) (q : Fin 1024) (R : Fin 32768) (hR : R.val = 512 * min t.val 63 + r.val) :
    (outsAt0 m c t.val t.isLt).1 (ix2 r q) = x1row m c R q := by
  have hN : t.val < 65 := lt_of_lt_of_eq t.isLt N_0
  by_cases h : t.val = 64
  · rw [outsAt0_C m c t h]
    unfold atC
    dsimp only
    exact (carried m c ⟨t.val - 1, pred_lt t⟩ (by dsimp only; omega) r q R (by dsimp only; omega)).1
  · exact (carried m c t (by omega) r q R (by omega)).1

theorem final7 (c : Dev nD) : (dats m 0 c).arrAt 7 (cfgs 0).N = res7 m c := by
  refine (dats m 0 c).arrAt_eq_of_covers 7 _ (by decide +kernel) fun t hf y => ?_
  have hN : t.val < 65 := lt_of_lt_of_eq t.isLt N_0
  have hi := (idxOut t).1
  idx_vars y
  have ix : (((cfgs 0).win 7).blk t).view.emb (ix2 y0 y1) = ix2 (⟨512 * min t.val 63 + y0.val, by have := y0.isLt; omega⟩ : Fin 32768) (y1 : Fin 1024) := by
    blk_ext [hi]
  rw [ix, after0_7, cast_eq, show ((win0 7).xinj (grid0.coords t) (ix2 y0 y1) : S512x1024.Idx) = ix2 y0 y1 from rfl]
  exact last7 m c t y0 y1 _ rfl

theorem final8 (c : Dev nD) : (dats m 0 c).arrAt 8 (cfgs 0).N = res8 m c := by
  refine (dats m 0 c).arrAt_eq_of_covers 8 _ (by decide +kernel) fun t hf y => ?_
  have ht := flushOut t 8 (by decide) hf
  have hN : t.val < 65 := lt_of_lt_of_eq t.isLt N_0
  have hi := (idxOut t).2.1
  idx_vars y
  have ix : (((cfgs 0).win 8).blk t).view.emb (ix2 y0 y1) = ix2 (⟨512 * (t.val - 1) + y0.val, by have := y0.isLt; omega⟩ : Fin 32768) (y1 : Fin 1536) := by
    blk_ext [hi]
  have key := fun q => (carried m c (⟨t.val - 1, pred_lt t⟩ : Fin cfg0.N) (by dsimp only; omega) y0 q (⟨512 * (t.val - 1) + y0.val, by have := y0.isLt; omega⟩ : Fin 32768) rfl).2
  dsimp only at key
  rw [ix, after0_8]
  by_cases h2 : t.val = 64
  · rw [outsAt0_C m c t h2]
    unfold atC
    dsimp only
    rw [cast_eq, show ((win0 8).xinj (grid0.coords t) (ix2 y0 y1) : S512x1536.Idx) = ix2 y0 y1 from rfl, out_C_8]
    simp only [key, blk6]
    rfl
  · rw [outsAt0_B m c t (by omega) h2]
    unfold atB
    dsimp only
    rw [cast_eq, show ((win0 8).xinj (grid0.coords t) (ix2 y0 y1) : S512x1536.Idx) = ix2 y0 y1 from rfl, out_B_8]
    simp only [key, blk6]
    rfl

theorem final9 (c : Dev nD) : (dats m 0 c).arrAt 9 (cfgs 0).N = res9 m c := by
  refine (dats m 0 c).arrAt_eq_of_covers 9 _ (by decide +kernel) fun t hf y => ?_
  have ht := flushOut t 9 (by decide) hf
  have hN : t.val < 65 := lt_of_lt_of_eq t.isLt N_0
  have hi := (idxOut t).2.2.1
  idx_vars y
  have ix : (((cfgs 0).win 9).blk t).view.emb (ix2 y0 y1) = ix2 (⟨512 * (t.val - 1) + y0.val, by have := y0.isLt; omega⟩ : Fin 32768) (y1 : Fin 768) := by
    blk_ext [hi]
  have key := fun q => (carried m c (⟨t.val - 1, pred_lt t⟩ : Fin cfg0.N) (by dsimp only; omega) y0 q (⟨512 * (t.val - 1) + y0.val, by have := y0.isLt; omega⟩ : Fin 32768) rfl).2
  dsimp only at key
  rw [ix, after0_9]
  by_cases h2 : t.val = 64
  · rw [outsAt0_C m c t h2]
    unfold atC
    dsimp only
    rw [cast_eq, show ((win0 9).xinj (grid0.coords t) (ix2 y0 y1) : S512x768.Idx) = ix2 y0 y1 from rfl, out_C_9]
    simp only [key, blk6]
    rfl
  · rw [outsAt0_B m c t (by omega) h2]
    unfold atB
    dsimp only
    rw [cast_eq, show ((win0 9).xinj (grid0.coords t) (ix2 y0 y1) : S512x768.Idx) = ix2 y0 y1 from rfl, out_B_9]
    simp only [key, blk6]
    rfl

theorem final10 (c : Dev nD) : (dats m 0 c).arrAt 10 (cfgs 0).N = res10 m c := by
  refine (dats m 0 c).arrAt_eq_of_covers 10 _ (by decide +kernel) fun t hf y => ?_
  have ht := flushOut t 10 (by decide) hf
  have hN : t.val < 65 := lt_of_lt_of_eq t.isLt N_0
  have hi := (idxOut t).2.2.2
  idx_vars y
  have ix : (((cfgs 0).win 10).blk t).view.emb (ix2 y0 y1) = ix2 (⟨512 * (t.val - 1) + y0.val, by have := y0.isLt; omega⟩ : Fin 32768) (y1 : Fin 2048) := by
    blk_ext [hi]
  have key := fun q => (carried m c (⟨t.val - 1, pred_lt t⟩ : Fin cfg0.N) (by dsimp only; omega) y0 q (⟨512 * (t.val - 1) + y0.val, by have := y0.isLt; omega⟩ : Fin 32768) rfl).2
  dsimp only at key
  rw [ix, after0_10]
  by_cases h2 : t.val = 64
  · rw [outsAt0_C m c t h2]
    unfold atC
    dsimp only
    rw [cast_eq, show ((win0 10).xinj (grid0.coords t) (ix2 y0 y1) : S512x2048.Idx) = ix2 y0 y1 from rfl, out_C_10]
    simp only [key, blk6]
    rfl
  · rw [outsAt0_B m c t (by omega) h2]
    unfold atB
    dsimp only
    rw [cast_eq, show ((win0 10).xinj (grid0.coords t) (ix2 y0 y1) : S512x2048.Idx) = ix2 y0 y1 from rfl, out_B_10]
    simp only [key, blk6]
    rfl

end Cert.Kernel2Ideal.Out

end
-- ==== Proof.Ref2.lean ====
/- The input reference, row by row. -/
module

public import proofs.«01_k».proof.Proof.Spec2
public import proofs.«01_k».proof.Proof.Gen.Reference2Ideal.Read

@[expose] public section

set_option maxRecDepth 16384
noncomputable section
namespace Cert.Reference2Ideal.Rows
open Cert.Spec Cert.Reference2Ideal Cert.Reference2Ideal.Gen Cert.Reference2Ideal.Read Idealize.ShloMosaic Idealize.ShloMosaic.TcCoe

variable (x0 : Vec Ideal S16x2048x1024 .f32) (x1 : Vec Ideal S1024 .f32) (x2 x3 : Vec Ideal S1024x2816 .f32) (x4 : Vec Ideal S2816x1024 .f32)
  (x5 : Vec Ideal S1024 .f32) (x6 : Vec Ideal S1024x4352 .f32)

theorem token (R : Fin 32768) (q : Fin 1024) : val_main_v0 (F := Ideal) x0 (ix2 R q) =
    x0 (ix3 (⟨R.val / 2048, by omega⟩ : Fin 16) (⟨R.val % 2048, by omega⟩ : Fin 2048) q) := by
  rw [val_main_v0_apply]
  refine congrArg x0 (funext fun a => Fin.ext ?_)
  have h1 := q.isLt
  match a with
  | 0 => show (R.val * 1024 + q.val) / 2097152 = R.val / 2048; omega
  | 1 => show (R.val * 1024 + q.val) / 1024 % 2048 = R.val % 2048; omega
  | 2 => show (R.val * 1024 + q.val) % 1024 = q.val; omega

theorem normed (R : Fin 32768) (q : Fin 1024) : val_main_v13 (F := Ideal) x0 x1 (ix2 R q) =
    rms (fun q => val_main_v0 (F := Ideal) x0 (ix2 R q)) (fun k => x1 (ix1 k)) q := by
  pointwise [val_main_v1, val_main_cst, val_main_v2, val_main_v3, val_main_cst_0, val_main_v4, val_main_v5, val_main_cst_1, val_main_v6, val_main_v7, val_main_v8, val_main_v9, val_main_v10, val_main_v11, val_main_v12, val_main_v13]
  simp only [rms]

theorem hidden (R : Fin 32768) (q : Fin 2816) : val_main_v17 (F := Ideal) x0 x1 x2 x3 (ix2 R q) =
    hid (fun q => val_main_v13 (F := Ideal) x0 x1 (ix2 R q)) (fun a b => x2 (ix2 a b)) (fun a b => x3 (ix2 a b)) q := by
  pointwise [val_main_v14, val_main_call0_v0, val_main_call0_v1, val_main_call0_cst, val_main_call0_v2, val_main_call0_v3, val_main_call0_cst_0, val_main_call0_v4, val_main_call0_v5, val_main_v15, val_main_v16, val_main_v17]
  simp only [hid, Ideal.logistic]

theorem first (R : Fin 32768) (q : Fin 1024) : val_main_v21 (F := Ideal) x0 x1 x2 x3 x4 (ix2 R q) =
    ffn (fun q => val_main_v0 (F := Ideal) x0 (ix2 R q)) (fun q => val_main_v13 (F := Ideal) x0 x1 (ix2 R q))
      (fun a b => x2 (ix2 a b)) (fun a b => x3 (ix2 a b)) (fun a b => x4 (ix2 a b)) q := by
  pointwise [val_main_v18, val_main_cst_2, val_main_v19, val_main_v20, val_main_v21]
  simp only [ffn, hidden]

theorem normed2 (R : Fin 32768) (q : Fin 1024) : val_main_v34 (F := Ideal) x0 x1 x2 x3 x4 x5 (ix2 R q) =
    rms (fun q => val_main_v21 (F := Ideal) x0 x1 x2 x3 x4 (ix2 R q)) (fun k => x5 (ix1 k)) q := by
  pointwise [val_main_v22, val_main_cst_3, val_main_v23, val_main_v24, val_main_cst_4, val_main_v25, val_main_v26, val_main_cst_5, val_main_v27, val_main_v28, val_main_v29, val_main_v30, val_main_v31, val_main_v32, val_main_v33, val_main_v34]
  simp only [rms]

theorem product (R : Fin 32768) (q : Fin 4352) : val_main_v35 (F := Ideal) x0 x1 x2 x3 x4 x5 x6 (ix2 R q) =
    proj (fun q => val_main_v34 (F := Ideal) x0 x1 x2 x3 x4 x5 (ix2 R q)) (fun a b => x6 (ix2 a b)) q := by
  pointwise [val_main_v35]
  simp only [proj]

/-- Division by the product of the root of 64 and the logarithm of 2 is multiplication by `qkScale`. -/
theorem div_scale (z : EReal) (i : S_.Idx) : Ideal.div z (val_main_v43 (F := Ideal)  (i)) = z * qkScale := by
  have hs : (0 : ℝ) < Real.sqrt 64 := Real.sqrt_pos.2 (by norm_num)
  have hl : (0 : ℝ) < Real.log 2 := Real.log_pos (by norm_num)
  have e : val_main_v43 (F := Ideal)  (i) = ((Real.sqrt 64 * Real.log 2 : ℝ) : EReal) := by
    pointwise [val_main_cst_6, val_main_v41, val_main_cst_7, val_main_v42, val_main_v43]
    rw [show Ideal.ofBits .f32 0x42800000#32 = ((64 : ℝ) : EReal) from by simp [Ideal.ofBits, Ideal.ieee, -EReal.coe_mul]; norm_num,
      show Ideal.ofBits .f32 0x40000000#32 = ((2 : ℝ) : EReal) from by simp [Ideal.ofBits, Ideal.ieee, -EReal.coe_mul]; norm_num]
    rw [show Ideal.log ((2 : ℝ) : EReal) = ((Real.log 2 : ℝ) : EReal) from if_neg (by norm_num),
      show Ideal.sqrt ((64 : ℝ) : EReal) = ((Real.sqrt 64 : ℝ) : EReal) from if_neg (by norm_num), EReal.coe_mul]
  rw [e]
  unfold Ideal.div
  rw [if_neg (by exact_mod_cast (mul_pos hs hl).ne')]
  unfold qkScale
  rw [← EReal.coe_inv, mul_inv_rev]

theorem second (R : Fin 32768) (q : Fin 1536) : val_main_v50 (F := Ideal) x0 x1 x2 x3 x4 x5 x6 (ix2 R q) =
    qkva (fun q => val_main_v34 (F := Ideal) x0 x1 x2 x3 x4 x5 (ix2 R q)) (fun a b => x6 (ix2 a b)) q := by
  pointwise [val_main_v50, val_main_v46, val_main_v45, val_main_v36, val_main_v37, val_main_v44]
  split
  · rename_i h
    rw [div_scale]
    simp only [product, qkva]
    rw [if_pos h]
  · rename_i h
    simp only [product, qkva]
    rw [if_neg h]
    exact congrArg _ (Fin.ext (by dsimp only; omega))

theorem third (R : Fin 32768) (q : Fin 768) : val_main_v51 (F := Ideal) x0 x1 x2 x3 x4 x5 x6 (ix2 R q) =
    qkvb (fun q => val_main_v34 (F := Ideal) x0 x1 x2 x3 x4 x5 (ix2 R q)) (fun a b => x6 (ix2 a b)) q := by
  pointwise [val_main_v51, val_main_v49, val_main_v48, val_main_v38, val_main_v39, val_main_v47]
  split
  · rename_i h
    rw [div_scale]
    simp only [product, qkvb]
    rw [if_pos h]
  · rename_i h
    simp only [product, qkvb]
    rw [if_neg h]
    exact congrArg _ (Fin.ext (by dsimp only; omega))

theorem fourth (R : Fin 32768) (q : Fin 2048) : val_main_v52 (F := Ideal) x0 x1 x2 x3 x4 x5 x6 (ix2 R q) =
    gates (fun q => val_main_v34 (F := Ideal) x0 x1 x2 x3 x4 x5 (ix2 R q)) (fun a b => x6 (ix2 a b)) q := by
  pointwise [val_main_v52, val_main_v40]
  simp only [product, gates]

end Cert.Reference2Ideal.Rows

end
-- ==== Proof.Eq2.lean ====
module

public import proofs.«01_k».proof.Defs
public import proofs.«01_k».proof.Proof.Final2
public import proofs.«01_k».proof.Proof.Ref2
public import Idealize.ShloMosaic.Lib.Claim

@[expose] public section

set_option maxRecDepth 16384
noncomputable section
namespace Cert.Eq2
open Cert.Spec Idealize.ShloMosaic Idealize.ShloMosaic.TcCoe

/-! The reference's four values, over the kernel's arguments, are the kernel's four result arrays. -/

section
open Cert.Kernel2Ideal

variable (m : (ℓ : Loc nD τ sig) → Buf (Elt Ideal) ℓ) (c : Dev nD)

theorem eq7 : Cert.Reference2Ideal.Read.val_main_v21 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = Cert.Kernel2Ideal.Out.res7 m c := by
  funext i
  idx_vars i
  rw [Cert.Reference2Ideal.Rows.first]
  simp only [Cert.Reference2Ideal.Rows.normed, Cert.Reference2Ideal.Rows.token]
  rfl

theorem eq8 : Cert.Reference2Ideal.Read.val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = Cert.Kernel2Ideal.Out.res8 m c := by
  funext i
  idx_vars i
  rw [Cert.Reference2Ideal.Rows.second]
  simp only [Cert.Reference2Ideal.Rows.normed2, Cert.Reference2Ideal.Rows.first, Cert.Reference2Ideal.Rows.normed, Cert.Reference2Ideal.Rows.token]
  rfl

theorem eq9 : Cert.Reference2Ideal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = Cert.Kernel2Ideal.Out.res9 m c := by
  funext i
  idx_vars i
  rw [Cert.Reference2Ideal.Rows.third]
  simp only [Cert.Reference2Ideal.Rows.normed2, Cert.Reference2Ideal.Rows.first, Cert.Reference2Ideal.Rows.normed, Cert.Reference2Ideal.Rows.token]
  rfl

theorem eq10 : Cert.Reference2Ideal.Read.val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = Cert.Kernel2Ideal.Out.res10 m c := by
  funext i
  idx_vars i
  rw [Cert.Reference2Ideal.Rows.fourth]
  simp only [Cert.Reference2Ideal.Rows.normed2, Cert.Reference2Ideal.Rows.first, Cert.Reference2Ideal.Rows.normed, Cert.Reference2Ideal.Rows.token]
  rfl

end

/-- Kernel and reference of the input call agree on every result. -/
theorem algebraic : Cert.algebraic_Kernel2Ideal_Reference2Ideal
    (hKernel2Ideal := Cert.Kernel2Ideal.Gen.facts) (hReference2Ideal := Cert.Reference2Ideal.Gen.facts) := by
  intro m ρ m' ρ' _ hagree
  refine ⟨Cert.Kernel2Ideal.Out.res7 m, Cert.Kernel2Ideal.Out.res8 m, Cert.Kernel2Ideal.Out.res9 m, Cert.Kernel2Ideal.Out.res10 m, ?_, ?_⟩
  · exact (Idealize.ShloMosaic.θ_run Cert.Kernel2Ideal.defs _ _).mono
      (fun _ h c => ⟨((h.1.1 c).1 7).trans (Cert.Kernel2Ideal.Out.final7 m c), ((h.1.1 c).1 8).trans (Cert.Kernel2Ideal.Out.final8 m c),
        ((h.1.1 c).1 9).trans (Cert.Kernel2Ideal.Out.final9 m c), ((h.1.1 c).1 10).trans (Cert.Kernel2Ideal.Out.final10 m c), h.2 c⟩)
      (θ_run_and (Cert.Kernel2Ideal.Fr.run_main_quiescent m ρ) (Cert.Kernel2Ideal.Fr.unchanged m ρ))
  · refine (Idealize.ShloMosaic.θ_run Cert.Reference2Ideal.defs _ _).mono
      (fun _ h c => ?_) (Cert.Reference2Ideal.Value.run m' ρ')
    obtain ⟨h0, h1, h2, h3, h4, h5, h6⟩ := hagree c
    refine ⟨(h c).1.trans ?_, (h c).2.1.trans ?_, (h c).2.2.1.trans ?_, (h c).2.2.2.1.trans ?_, (h c).2.2.2.2⟩
    · rw [Cert.Reference2Ideal.Read.val_main_v21_eq, h0, h1, h2, h3, h4]
      exact eq7 m c
    · rw [Cert.Reference2Ideal.Read.val_main_v50_eq, h0, h1, h2, h3, h4, h5, h6]
      exact eq8 m c
    · rw [Cert.Reference2Ideal.Read.val_main_v51_eq, h0, h1, h2, h3, h4, h5, h6]
      exact eq9 m c
    · rw [Cert.Reference2Ideal.Read.val_main_v52_eq, h0, h1, h2, h3, h4, h5, h6]
      exact eq10 m c

end Cert.Eq2

end
-- ==== Proof.Out3.lean ====
module

public import proofs.«01_k».proof.Proof.Gen.Kernel3Ideal.Frame
public import Idealize.ShloMosaic.Lib.Pipeline.Value
public import Idealize.ShloMosaic.Lib.Pipeline.ValueKit
public import proofs.«01_k».proof.Proof.Spec

@[expose] public section

set_option maxRecDepth 16384
noncomputable section
namespace Cert.Kernel3Ideal.Out
open Cert.Spec Cert.Kernel3Ideal Cert.Kernel3Ideal.Gen Idealize.ShloMosaic Idealize.ShloMosaic.TcCoe Idealize.SL.Sem

/-- The gated sum of the two projections, as a block. -/
def mg (x1 x2 : Vec Ideal S512x512 .bf16) (x3 x4 x5 x6 : Vec Ideal S512x1024 .bf16) : Vec Ideal S512x1024 .bf16 := fun i =>
  gated (fun k => x1 (ix2 (i 0) k)) (fun k => x2 (ix2 (i 0) k)) (fun k => x3 (ix2 (i 0) k)) (fun k => x4 (ix2 (i 0) k))
    (fun a b => x5 (ix2 a b)) (fun a b => x6 (ix2 a b)) (i 1)

/-- The merged rows, as a block. -/
def mrg (x0 : Vec Ideal S512x1024 .f32) (x1 x2 : Vec Ideal S512x512 .bf16) (x3 x4 x5 x6 : Vec Ideal S512x1024 .bf16)
    (x7 : Vec Ideal S1024x1024 .bf16) (r : Fin 512) : Fin 1024 → EReal :=
  mixed (fun k => x0 (ix2 r k)) (fun k => x1 (ix2 r k)) (fun k => x2 (ix2 r k)) (fun k => x3 (ix2 r k)) (fun k => x4 (ix2 r k))
    (fun a b => x5 (ix2 a b)) (fun a b => x6 (ix2 a b)) (fun a b => x7 (ix2 a b))

/-- The hidden block. -/
def hidB (h : Vec Ideal S512x1024 .bf16) (x9 x10 : Vec Ideal S1024x2816 .bf16) : Vec Ideal S512x2816 .bf16 := fun i =>
  hid (fun k => h (ix2 (i 0) k)) (fun a b => x9 (ix2 a b)) (fun a b => x10 (ix2 a b)) (i 1)

variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S512x1024 .f32) (harg14 : arg14.IsWhole) (arg15 : Memref sig .tc .vmem S512x2816 .bf16) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x1024 .bf16) (harg18 : arg18.IsWhole)

theorem sout_A_1 (hc0 : cond0_0 i) (hc1 : ¬cond0_1 i) (hc2 : ¬cond0_2 i) (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .bf16) (x7 : Vec Ideal S1024x1024 .bf16) (x8 : Vec Ideal S1x1024 .f32) (x9 : Vec Ideal S1024x2816 .bf16) (x10 : Vec Ideal S1024x2816 .bf16) (x11 : Vec Ideal S2816x1024 .bf16) (x12 : Vec Ideal S1x1024 .f32) (r : Fin 512) (q : Fin 1024) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 (ix2 r q) = mrg x0 x1 x2 x3 x4 x5 x6 x7 r q := by
  unfold sout0_A_1
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, View.ld_unit_zero (S := S512x512) hz, View.ld_unit_zero (S := S512x1024) hz, View.ld_unit_zero (S := S1024x1024) hz, View.ld_unit_zero (S := S1x1024) hz, View.ld_unit_zero (S := S2816x1024) hz, View.ld_unit_zero (S := S512x2816) hz]
  rw [readCov_whole arg18.view (mg x1 x2 x3 x4 x5 x6) _ hz inb_S512x1024_S512x1024_0_0 (View.cover_of_tiled_head _ _ _ rfl)]
  rotate_left
  · simp only [List.forall_mem_cons, List.not_mem_nil, false_implies, implies_true, and_true]
    refine ⟨?_, ?_, ?_, ?_⟩ <;> (intro y; idx_vars y; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, mg]; simp only [gated])
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, mrg]
  simp only [mixed, mg]
  rfl

theorem sout_A_2 (hc0 : cond0_0 i) (hc1 : ¬cond0_1 i) (hc2 : ¬cond0_2 i) (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .bf16) (x7 : Vec Ideal S1024x1024 .bf16) (x8 : Vec Ideal S1x1024 .f32) (x9 : Vec Ideal S1024x2816 .bf16) (x10 : Vec Ideal S1024x2816 .bf16) (x11 : Vec Ideal S2816x1024 .bf16) (x12 : Vec Ideal S1x1024 .f32) (r : Fin 512) (q : Fin 1024) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 (ix2 r q) = rms (mrg x0 x1 x2 x3 x4 x5 x6 x7 r) (fun k => x8 (ix2 0 k)) q := by
  unfold sout0_A_2
  rw [View.read_writes_junk_eq_canon]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, View.ld_unit_zero (S := S512x512) hz, View.ld_unit_zero (S := S512x1024) hz, View.ld_unit_zero (S := S1024x1024) hz, View.ld_unit_zero (S := S1x1024) hz, View.ld_unit_zero (S := S2816x1024) hz, View.ld_unit_zero (S := S512x2816) hz]
  rw [readCov_whole arg18.view (mg x1 x2 x3 x4 x5 x6) _ hz inb_S512x1024_S512x1024_0_0 (View.cover_of_tiled_head _ _ _ rfl)]
  rotate_left
  · simp only [List.forall_mem_cons, List.not_mem_nil, false_implies, implies_true, and_true]
    refine ⟨?_, ?_, ?_, ?_⟩ <;> (intro y; idx_vars y; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, mg]; simp only [gated])
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, mrg]
  simp only [rms, mixed, mg]
  rfl

theorem sout_B_1 (hc0 : ¬cond0_0 i) (hc1 : cond0_1 i) (hc2 : ¬cond0_2 i) (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .bf16) (x7 : Vec Ideal S1024x1024 .bf16) (x8 : Vec Ideal S1x1024 .f32) (x9 : Vec Ideal S1024x2816 .bf16) (x10 : Vec Ideal S1024x2816 .bf16) (x11 : Vec Ideal S2816x1024 .bf16) (x12 : Vec Ideal S1x1024 .f32) (xs1 : Vec Ideal S512x1024 .f32) (xs2 : Vec Ideal S512x1024 .bf16) (r : Fin 512) (q : Fin 1024) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 xs1 xs2 (ix2 r q) = mrg x0 x1 x2 x3 x4 x5 x6 x7 r q := by
  unfold sout0_B_1
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, View.ld_unit_zero (S := S512x512) hz, View.ld_unit_zero (S := S512x1024) hz, View.ld_unit_zero (S := S1024x1024) hz, View.ld_unit_zero (S := S1x1024) hz, View.ld_unit_zero (S := S2816x1024) hz, View.ld_unit_zero (S := S512x2816) hz]
  rw [readCov_whole arg18.view (mg x1 x2 x3 x4 x5 x6) _ hz inb_S512x1024_S512x1024_0_0 (View.cover_of_tiled_head _ _ _ rfl)]
  rotate_left
  · simp only [List.forall_mem_cons, List.not_mem_nil, false_implies, implies_true, and_true]
    refine ⟨?_, ?_, ?_, ?_⟩ <;> (intro y; idx_vars y; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, mg]; simp only [gated])
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, mrg]
  simp only [mixed, mg]
  rfl

theorem sout_B_2 (hc0 : ¬cond0_0 i) (hc1 : cond0_1 i) (hc2 : ¬cond0_2 i) (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .bf16) (x7 : Vec Ideal S1024x1024 .bf16) (x8 : Vec Ideal S1x1024 .f32) (x9 : Vec Ideal S1024x2816 .bf16) (x10 : Vec Ideal S1024x2816 .bf16) (x11 : Vec Ideal S2816x1024 .bf16) (x12 : Vec Ideal S1x1024 .f32) (xs1 : Vec Ideal S512x1024 .f32) (xs2 : Vec Ideal S512x1024 .bf16) (r : Fin 512) (q : Fin 1024) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 xs1 xs2 (ix2 r q) = rms (mrg x0 x1 x2 x3 x4 x5 x6 x7 r) (fun k => x8 (ix2 0 k)) q := by
  unfold sout0_B_2
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, View.ld_unit_zero (S := S512x512) hz, View.ld_unit_zero (S := S512x1024) hz, View.ld_unit_zero (S := S1024x1024) hz, View.ld_unit_zero (S := S1x1024) hz, View.ld_unit_zero (S := S2816x1024) hz, View.ld_unit_zero (S := S512x2816) hz]
  rw [readCov_whole arg18.view (mg x1 x2 x3 x4 x5 x6) _ hz inb_S512x1024_S512x1024_0_0 (View.cover_of_tiled_head _ _ _ rfl)]
  rotate_left
  · simp only [List.forall_mem_cons, List.not_mem_nil, false_implies, implies_true, and_true]
    refine ⟨?_, ?_, ?_, ?_⟩ <;> (intro y; idx_vars y; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, mg]; simp only [gated])
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, mrg]
  simp only [rms, mixed, mg]
  rfl

theorem out_B (hc0 : ¬cond0_0 i) (hc1 : cond0_1 i) (hc2 : ¬cond0_2 i) (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .bf16) (x7 : Vec Ideal S1024x1024 .bf16) (x8 : Vec Ideal S1x1024 .f32) (x9 : Vec Ideal S1024x2816 .bf16) (x10 : Vec Ideal S1024x2816 .bf16) (x11 : Vec Ideal S2816x1024 .bf16) (x12 : Vec Ideal S1x1024 .f32) (xs1 : Vec Ideal S512x1024 .f32) (xs2 : Vec Ideal S512x1024 .bf16) (r : Fin 512) (q : Fin 1024) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 xs1 xs2 (ix2 r q) = rms (ffn (fun k => xs1 (ix2 r k)) (fun k => xs2 (ix2 r k)) (fun a b => x9 (ix2 a b)) (fun a b => x10 (ix2 a b)) (fun a b => x11 (ix2 a b))) (fun k => x12 (ix2 0 k)) q := by
  unfold out0_B_13
  rw [View.read_writes_junk_eq_canon]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, View.ld_unit_zero (S := S512x512) hz, View.ld_unit_zero (S := S512x1024) hz, View.ld_unit_zero (S := S1024x1024) hz, View.ld_unit_zero (S := S1x1024) hz, View.ld_unit_zero (S := S2816x1024) hz, View.ld_unit_zero (S := S512x2816) hz]

  rw [readCov_whole arg15.view (hidB xs2 x9 x10) _ hz inb_S512x2816_S512x2816_0_0 (View.cover_of_tiled_head _ _ _ rfl)]
  rotate_left
  · simp only [List.forall_mem_cons, List.not_mem_nil, false_implies, implies_true, and_true]
    refine ⟨?_, ?_, ?_, ?_, ?_, ?_, ?_, ?_, ?_, ?_, ?_⟩ <;> (intro y; idx_vars y; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, hidB]; simp only [hid])
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61]
  simp only [rms, ffn, hidB]
  rfl

theorem out_C (hc0 : ¬cond0_0 i) (hc1 : ¬cond0_1 i) (hc2 : cond0_2 i) (x0 : Vec Ideal S512x1024 .f32) (x1 : Vec Ideal S512x512 .bf16) (x2 : Vec Ideal S512x512 .bf16) (x3 : Vec Ideal S512x1024 .bf16) (x4 : Vec Ideal S512x1024 .bf16) (x5 : Vec Ideal S512x1024 .bf16) (x6 : Vec Ideal S512x1024 .bf16) (x7 : Vec Ideal S1024x1024 .bf16) (x8 : Vec Ideal S1x1024 .f32) (x9 : Vec Ideal S1024x2816 .bf16) (x10 : Vec Ideal S1024x2816 .bf16) (x11 : Vec Ideal S2816x1024 .bf16) (x12 : Vec Ideal S1x1024 .f32) (xs1 : Vec Ideal S512x1024 .f32) (xs2 : Vec Ideal S512x1024 .bf16) (r : Fin 512) (q : Fin 1024) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 xs1 xs2 (ix2 r q) = rms (ffn (fun k => xs1 (ix2 r k)) (fun k => xs2 (ix2 r k)) (fun a b => x9 (ix2 a b)) (fun a b => x10 (ix2 a b)) (fun a b => x11 (ix2 a b))) (fun k => x12 (ix2 0 k)) q := by
  unfold out0_C_13
  rw [View.read_writes_junk_eq_canon]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg16.read_unread, harg17.read_unread, View.ld_unit_zero (S := S512x512) hz, View.ld_unit_zero (S := S512x1024) hz, View.ld_unit_zero (S := S1024x1024) hz, View.ld_unit_zero (S := S1x1024) hz, View.ld_unit_zero (S := S2816x1024) hz, View.ld_unit_zero (S := S512x2816) hz]

  rw [readCov_whole arg15.view (hidB xs2 x9 x10) _ hz inb_S512x2816_S512x2816_0_0 (View.cover_of_tiled_head _ _ _ rfl)]
  rotate_left
  · simp only [List.forall_mem_cons, List.not_mem_nil, false_implies, implies_true, and_true]
    refine ⟨?_, ?_, ?_, ?_, ?_, ?_, ?_, ?_, ?_, ?_, ?_⟩ <;> (intro y; idx_vars y; pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, hidB]; simp only [hid])
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61]
  simp only [rms, ffn, hidB]
  rfl

end Cert.Kernel3Ideal.Out

end
-- ==== Proof.Blk3.lean ====
module

public import proofs.«01_k».proof.Proof.Out3
public import proofs.«01_k».proof.Proof.Gen.Kernel3Ideal.Value

@[expose] public section

set_option maxRecDepth 16384
noncomputable section
namespace Cert.Kernel3Ideal.Out
open Cert.Spec Cert.Kernel3Ideal Cert.Kernel3Ideal.Gen Idealize.ShloMosaic Idealize.ShloMosaic.TcCoe Idealize.SL.Sem

variable (m : (ℓ : Loc nD τ sig) → Buf (Elt Ideal) ℓ)

theorem idxRow : ∀ t : Fin cfg0.N, (win0_0.index t = ![min t.val 63, 0] ∧ win0_1.index t = ![min t.val 63, 0] ∧ win0_2.index t = ![min t.val 63, 0]
    ∧ win0_3.index t = ![min t.val 63, 0] ∧ win0_4.index t = ![min t.val 63, 1]) := by decide +kernel
theorem idxFix : ∀ t : Fin cfg0.N, (win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]) := by decide +kernel
theorem idxOut : ∀ t : Fin cfg0.N, win0_13.index t = ![t.val - 1, 0] := by decide +kernel
theorem flushOut : ∀ t : Fin cfg0.N, (cfg0.win 13).flush t = true → 1 ≤ t.val := by decide +kernel

theorem N65 : cfg0.N = 65 := N_0

theorem blk0 (c : Dev nD) (t : Fin cfg0.N) (ht : t.val ≤ 63) (r : Fin 512) (q : Fin 1024) (R : Fin 32768) (hR : R.val = 512 * t.val + r.val) :
    iblk m c 0 t (ix2 r q) = m ((c : Thread nD τ).loc main_arg0) (ix2 R q) := by
  obtain ⟨h0, h1, h2, h3, h4⟩ := idxRow t
  blk_ext! [iblk, V, h0]

theorem blk1 (c : Dev nD) (t : Fin cfg0.N) (ht : t.val ≤ 63) (r : Fin 512) (q : Fin 512) (R : Fin 32768) (hR : R.val = 512 * t.val + r.val) :
    iblk m c 1 t (ix2 r q) = m ((c : Thread nD τ).loc main_arg1) (ix2 R q) := by
  obtain ⟨h0, h1, h2, h3, h4⟩ := idxRow t
  blk_ext! [iblk, V, h1]

theorem blk2 (c : Dev nD) (t : Fin cfg0.N) (ht : t.val ≤ 63) (r : Fin 512) (q : Fin 512) (R : Fin 32768) (hR : R.val = 512 * t.val + r.val) :
    iblk m c 2 t (ix2 r q) = m ((c : Thread nD τ).loc main_arg2) (ix2 R q) := by
  obtain ⟨h0, h1, h2, h3, h4⟩ := idxRow t
  blk_ext! [iblk, V, h2]

theorem blk3 (c : Dev nD) (t : Fin cfg0.N) (ht : t.val ≤ 63) (r : Fin 512) (q : Fin 1024) (R : Fin 32768) (hR : R.val = 512 * t.val + r.val) :
    iblk m c 3 t (ix2 r q) = m ((c : Thread nD τ).loc main_arg3) (ix2 R ⟨q.val, by omega⟩) := by
  obtain ⟨h0, h1, h2, h3, h4⟩ := idxRow t
  blk_ext! [iblk, V, h3]

theorem blk4 (c : Dev nD) (t : Fin cfg0.N) (ht : t.val ≤ 63) (r : Fin 512) (q : Fin 1024) (R : Fin 32768) (hR : R.val = 512 * t.val + r.val) (Q : Fin 2048) (hQ : Q.val = 1024 + q.val) :
    iblk m c 4 t (ix2 r q) = m ((c : Thread nD τ).loc main_arg3) (ix2 R Q) := by
  obtain ⟨h0, h1, h2, h3, h4⟩ := idxRow t
  blk_ext! [iblk, V, h4]

theorem blk5 (c : Dev nD) (t : Fin cfg0.N) (a : Fin 512) (b : Fin 1024) : iblk m c 5 t (ix2 a b) = m ((c : Thread nD τ).loc main_arg4) (ix2 a b) := by
  obtain ⟨h5, h6, h7, h8, h9, h10, h11, h12⟩ := idxFix t
  blk_ext! [iblk, V, h5]

theorem blk6 (c : Dev nD) (t : Fin cfg0.N) (a : Fin 512) (b : Fin 1024) : iblk m c 6 t (ix2 a b) = m ((c : Thread nD τ).loc main_arg5) (ix2 a b) := by
  obtain ⟨h5, h6, h7, h8, h9, h10, h11, h12⟩ := idxFix t
  blk_ext! [iblk, V, h6]

theorem blk7 (c : Dev nD) (t : Fin cfg0.N) (a : Fin 1024) (b : Fin 1024) : iblk m c 7 t (ix2 a b) = m ((c : Thread nD τ).loc main_arg6) (ix2 a b) := by
  obtain ⟨h5, h6, h7, h8, h9, h10, h11, h12⟩ := idxFix t
  blk_ext! [iblk, V, h7]

theorem blk9 (c : Dev nD) (t : Fin cfg0.N) (a : Fin 1024) (b : Fin 2816) : iblk m c 9 t (ix2 a b) = m ((c : Thread nD τ).loc main_arg8) (ix2 a b) := by
  obtain ⟨h5, h6, h7, h8, h9, h10, h11, h12⟩ := idxFix t
  blk_ext! [iblk, V, h9]

theorem blk10 (c : Dev nD) (t : Fin cfg0.N) (a : Fin 1024) (b : Fin 2816) : iblk m c 10 t (ix2 a b) = m ((c : Thread nD τ).loc main_arg9) (ix2 a b) := by
  obtain ⟨h5, h6, h7, h8, h9, h10, h11, h12⟩ := idxFix t
  blk_ext! [iblk, V, h10]

theorem blk11 (c : Dev nD) (t : Fin cfg0.N) (a : Fin 2816) (b : Fin 1024) : iblk m c 11 t (ix2 a b) = m ((c : Thread nD τ).loc main_arg10) (ix2 a b) := by
  obtain ⟨h5, h6, h7, h8, h9, h10, h11, h12⟩ := idxFix t
  blk_ext! [iblk, V, h11]

theorem blk8 (c : Dev nD) (t : Fin cfg0.N) (b : Fin 1024) : iblk m c 8 t (ix2 0 b) = m ((c : Thread nD τ).loc main_arg7) (ix1 b) := by
  obtain ⟨h5, h6, h7, h8, h9, h10, h11, h12⟩ := idxFix t
  blk_ext! [iblk, V, h8]

theorem blk12 (c : Dev nD) (t : Fin cfg0.N) (b : Fin 1024) : iblk m c 12 t (ix2 0 b) = m ((c : Thread nD τ).loc main_arg11) (ix1 b) := by
  obtain ⟨h5, h6, h7, h8, h9, h10, h11, h12⟩ := idxFix t
  blk_ext! [iblk, V, h12]

end Cert.Kernel3Ideal.Out

end
-- ==== Proof.Final3.lean ====
module

public import proofs.«01_k».proof.Proof.Blk3
public import proofs.«01_k».proof.Proof.Gen.Kernel3Ideal.Value

@[expose] public section

set_option maxRecDepth 16384
noncomputable section
namespace Cert.Kernel3Ideal.Out
open Cert.Spec Cert.Kernel3Ideal Cert.Kernel3Ideal.Gen Idealize.ShloMosaic Idealize.ShloMosaic.TcCoe Idealize.SL.Sem

variable (m : (ℓ : Loc nD τ sig) → Buf (Elt Ideal) ℓ)

/-- Row `R` of the merged array, from the arguments. -/
def x2row (c : Dev nD) (R : Fin 32768) : Fin 1024 → EReal :=
  mixed (fun k => m ((c : Thread nD τ).loc main_arg0) (ix2 R k)) (fun k => m ((c : Thread nD τ).loc main_arg1) (ix2 R k))
    (fun k => m ((c : Thread nD τ).loc main_arg2) (ix2 R k)) (fun k => m ((c : Thread nD τ).loc main_arg3) (ix2 R ⟨k.val, by omega⟩))
    (fun k => m ((c : Thread nD τ).loc main_arg3) (ix2 R ⟨1024 + k.val, by omega⟩)) (fun a b => m ((c : Thread nD τ).loc main_arg4) (ix2 a b))
    (fun a b => m ((c : Thread nD τ).loc main_arg5) (ix2 a b)) (fun a b => m ((c : Thread nD τ).loc main_arg6) (ix2 a b))

/-- Row `R` of the merged array, normed. -/
def hrow (c : Dev nD) (R : Fin 32768) : Fin 1024 → EReal :=
  rms (x2row m c R) (fun k => m ((c : Thread nD τ).loc main_arg7) (ix1 k))

/-- What the call leaves in its result array. -/
def res (c : Dev nD) (i : S32768x1024.Idx) : EReal :=
  rms (ffn (x2row m c (i 0)) (hrow m c (i 0)) (fun a b => m ((c : Thread nD τ).loc main_arg8) (ix2 a b))
      (fun a b => m ((c : Thread nD τ).loc main_arg9) (ix2 a b)) (fun a b => m ((c : Thread nD τ).loc main_arg10) (ix2 a b)))
    (fun k => m ((c : Thread nD τ).loc main_arg11) (ix1 k)) (i 1)

theorem carried (c : Dev nD) (t : Fin cfg0.N) (ht : t.val ≤ 63) (r : Fin 512) (q : Fin 1024) (R : Fin 32768) (hR : R.val = 512 * t.val + r.val) :
    (outsAt0 m c t.val t.isLt).2.1 (ix2 r q) = x2row m c R q ∧ (outsAt0 m c t.val t.isLt).2.2 (ix2 r q) = hrow m c R q := by
  have hmrg : mrg (iblk m c 0 t) (iblk m c 1 t) (iblk m c 2 t) (iblk m c 3 t) (iblk m c 4 t) (iblk m c 5 t) (iblk m c 6 t) (iblk m c 7 t) r
      = x2row m c R := by
    unfold mrg x2row
    simp only [blk0 m c t ht r _ R hR, blk1 m c t ht r _ R hR, blk2 m c t ht r _ R hR, blk3 m c t ht r _ R hR, fun q => blk4 m c t ht r q R hR ⟨1024 + q.val, by omega⟩ rfl, blk5, blk6, blk7, blk8]
  by_cases h0 : t.val % 65 = 0
  · rw [outsAt0_A m c t h0 (by omega) (by omega)]
    dsimp only
    rw [sout_A_1, sout_A_2, hmrg]
    exact ⟨rfl, by unfold hrow; simp only [blk8]⟩
  · rw [outsAt0_B m c t h0 (by omega) (by omega)]
    dsimp only
    rw [sout_B_1, sout_B_2, hmrg]
    exact ⟨rfl, by unfold hrow; simp only [blk8]⟩

theorem final (c : Dev nD) : (dats m 0 c).arrAt 13 (cfgs 0).N = res m c := by
  refine (dats m 0 c).arrAt_eq_of_covers 13 _ (by decide +kernel) fun t hf y => ?_
  have ht := flushOut t hf
  have hN : t.val < 65 := lt_of_lt_of_eq t.isLt N_0
  have hi := idxOut t
  idx_vars y
  have hb : ((cfgs 0).win 13).blk t = ((cfgs 0).win 13).blk t := rfl
  have ix : (((cfgs 0).win 13).blk t).view.emb (ix2 y0 y1) = ix2 (⟨512 * (t.val - 1) + y0.val, by have := y0.isLt; omega⟩ : Fin 32768) (y1 : Fin 1024) := by
    blk_ext [hi]
  have key := fun q => carried m c (⟨t.val - 1, Nat.lt_of_le_of_lt (Nat.sub_le _ _) t.isLt⟩ : Fin cfg0.N) (by dsimp only; omega) y0 q (⟨512 * (t.val - 1) + y0.val, by have := y0.isLt; omega⟩ : Fin 32768) rfl
  dsimp only at key
  rw [ix]
  rw [after0_13]
  by_cases h2 : t.val % 65 = 64
  · rw [outsAt0_C m c t (by omega) (by omega) h2]
    dsimp only
    rw [cast_eq, show ((win0 13).xinj (grid0.coords t) (ix2 y0 y1) : S512x1024.Idx) = ix2 y0 y1 from rfl, out_C]
    simp only [fun q => (key q).1, fun q => (key q).2, blk9, blk10, blk11, blk12]
    rfl
  · rw [outsAt0_B m c t (by omega) (by omega) h2]
    dsimp only
    rw [cast_eq, show ((win0 13).xinj (grid0.coords t) (ix2 y0 y1) : S512x1024.Idx) = ix2 y0 y1 from rfl, out_B]
    simp only [fun q => (key q).1, fun q => (key q).2, blk9, blk10, blk11, blk12]
    rfl

end Cert.Kernel3Ideal.Out

end
-- ==== Proof.Ref3.lean ====
module

public import proofs.«01_k».proof.Proof.Spec
public import proofs.«01_k».proof.Proof.Gen.Reference3Ideal.Read

@[expose] public section

set_option maxRecDepth 16384
noncomputable section
namespace Cert.Reference3Ideal.Rows
open Cert.Spec Cert.Reference3Ideal Cert.Reference3Ideal.Gen Cert.Reference3Ideal.Read Idealize.ShloMosaic Idealize.ShloMosaic.TcCoe

variable (x0 : Vec Ideal S32768x1024 .f32) (x1 x2 : Vec Ideal S32768x512 .f32) (x3 : Vec Ideal S32768x2048 .f32) (x4 x5 : Vec Ideal S512x1024 .f32)
  (x6 : Vec Ideal S1024x1024 .f32) (x7 : Vec Ideal S1024 .f32) (x8 x9 : Vec Ideal S1024x2816 .f32) (x10 : Vec Ideal S2816x1024 .f32) (x11 : Vec Ideal S1024 .f32)

theorem merged (R : Fin 32768) (q : Fin 1024) : val_main_v18 (F := Ideal) x1 x2 x3 x4 x5 (ix2 R q) =
    gated (fun k => x1 (ix2 R k)) (fun k => x2 (ix2 R k)) (fun k => x3 (ix2 R ⟨k.val, by omega⟩)) (fun k => x3 (ix2 R ⟨1024 + k.val, by omega⟩))
      (fun a b => x4 (ix2 a b)) (fun a b => x5 (ix2 a b)) q := by
  pointwise [val_main_v0, val_main_v1, val_main_v2, val_main_v3, val_main_cst, val_main_v4, val_main_v5, val_main_cst_0, val_main_v6, val_main_v7, val_main_v8, val_main_v9, val_main_v10, val_main_v11, val_main_cst_1, val_main_v12, val_main_v13, val_main_cst_2, val_main_v14, val_main_v15, val_main_v16, val_main_v17, val_main_v18]
  simp only [gated, Ideal.logistic]

theorem mixedRow (R : Fin 32768) (q : Fin 1024) : val_main_v20 (F := Ideal) x0 x1 x2 x3 x4 x5 x6 (ix2 R q) =
    mixed (fun k => x0 (ix2 R k)) (fun k => x1 (ix2 R k)) (fun k => x2 (ix2 R k)) (fun k => x3 (ix2 R ⟨k.val, by omega⟩)) (fun k => x3 (ix2 R ⟨1024 + k.val, by omega⟩))
      (fun a b => x4 (ix2 a b)) (fun a b => x5 (ix2 a b)) (fun a b => x6 (ix2 a b)) q := by
  pointwise [val_main_v19, val_main_v20]
  simp only [merged, mixed]

theorem normed (R : Fin 32768) (q : Fin 1024) : val_main_v33 (F := Ideal) x0 x1 x2 x3 x4 x5 x6 x7 (ix2 R q) =
    rms (fun q => val_main_v20 (F := Ideal) x0 x1 x2 x3 x4 x5 x6 (ix2 R q)) (fun k => x7 (ix1 k)) q := by
  pointwise [val_main_v21, val_main_cst_3, val_main_v22, val_main_v23, val_main_cst_4, val_main_v24, val_main_v25, val_main_cst_5, val_main_v26, val_main_v27, val_main_v28, val_main_v29, val_main_v30, val_main_v31, val_main_v32, val_main_v33]
  simp only [rms]

theorem hidden (R : Fin 32768) (q : Fin 2816) : val_main_v37 (F := Ideal) x0 x1 x2 x3 x4 x5 x6 x7 x8 x9 (ix2 R q) =
    hid (fun q => val_main_v33 (F := Ideal) x0 x1 x2 x3 x4 x5 x6 x7 (ix2 R q)) (fun a b => x8 (ix2 a b)) (fun a b => x9 (ix2 a b)) q := by
  pointwise [val_main_v34, val_main_call0_v0, val_main_call0_v1, val_main_call0_cst, val_main_call0_v2, val_main_call0_v3, val_main_call0_cst_0, val_main_call0_v4, val_main_call0_v5, val_main_v35, val_main_v36, val_main_v37]
  simp only [hid, Ideal.logistic]

theorem out (R : Fin 32768) (q : Fin 1024) : val_main_v54 (F := Ideal) x0 x1 x2 x3 x4 x5 x6 x7 x8 x9 x10 x11 (ix2 R q) =
    rms (ffn (fun q => val_main_v20 (F := Ideal) x0 x1 x2 x3 x4 x5 x6 (ix2 R q)) (fun q => val_main_v33 (F := Ideal) x0 x1 x2 x3 x4 x5 x6 x7 (ix2 R q)) (fun a b => x8 (ix2 a b)) (fun a b => x9 (ix2 a b)) (fun a b => x10 (ix2 a b))) (fun k => x11 (ix1 k)) q := by
  pointwise [val_main_v38, val_main_cst_6, val_main_v39, val_main_v40, val_main_v41, val_main_v42, val_main_cst_7, val_main_v43, val_main_v44, val_main_cst_8, val_main_v45, val_main_v46, val_main_cst_9, val_main_v47, val_main_v48, val_main_v49, val_main_v50, val_main_v51, val_main_v52, val_main_v53, val_main_v54]
  simp only [rms, ffn, hidden]

end Cert.Reference3Ideal.Rows

end
-- ==== Proof.Eq3.lean ====
module

public import proofs.«01_k».proof.Defs
public import proofs.«01_k».proof.Proof.Final3
public import proofs.«01_k».proof.Proof.Ref3

@[expose] public section

set_option maxRecDepth 16384
noncomputable section
namespace Cert.Eq3
open Cert.Spec Idealize.ShloMosaic Idealize.ShloMosaic.TcCoe

open Cert.Kernel3Ideal in
/-- The reference's last value, over the kernel's arguments, is the kernel's result array: both are the final norm of the
    row's residual stream after its feed-forward half step. -/
theorem result_eq (m : (ℓ : Loc nD τ sig) → Buf (Elt Ideal) ℓ) (c : Dev nD) :
    Cert.Reference3Ideal.Read.val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = Cert.Kernel3Ideal.Out.res m c := by
  funext i
  idx_vars i
  rw [Cert.Reference3Ideal.Rows.out]
  simp only [Cert.Reference3Ideal.Rows.normed, Cert.Reference3Ideal.Rows.mixedRow]
  rfl

/-- Kernel and reference of the output call agree on every result. -/
theorem algebraic : Cert.algebraic_Kernel3Ideal_Reference3Ideal
    (hKernel3Ideal := Cert.Kernel3Ideal.Gen.facts) (hReference3Ideal := Cert.Reference3Ideal.Gen.facts) := by
  intro m ρ m' ρ' _ hagree
  refine ⟨fun c => Cert.Kernel3Ideal.Out.res m c, ?_, ?_⟩
  · exact (Idealize.ShloMosaic.θ_run Cert.Kernel3Ideal.defs _ _).mono
      (fun _ h c => ⟨(h c).1.trans (Cert.Kernel3Ideal.Out.final m c), (h c).2⟩) (Cert.Kernel3Ideal.Value.run_blocks m ρ)
  · refine (Idealize.ShloMosaic.θ_run Cert.Reference3Ideal.defs _ _).mono
      (fun _ h c => ⟨(h c).1.trans ?_, (h c).2⟩) (Cert.Reference3Ideal.Value.run m' ρ')
    obtain ⟨h0, h1, h2, h3, h4, h5, h6, h7, h8, h9, h10, h11⟩ := hagree c
    rw [Cert.Reference3Ideal.Read.val_main_v54_eq, h0, h1, h2, h3, h4, h5, h6, h7, h8, h9, h10, h11]
    exact result_eq m c

end Cert.Eq3

end
-- ==== Proof.lean ====
module

public import proofs.«01_k».proof.Defs
public import proofs.«01_k».proof.Proof.Frames
public import proofs.«01_k».proof.Proof.Eq2
public import proofs.«01_k».proof.Proof.Eq3

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts,
    Cert.Frames.kernel, Cert.Frames.kernelIdeal, Cert.Frames.referenceIdeal, Cert.Frames.kernel2, Cert.Frames.kernel2Ideal,
    Cert.Frames.reference2Ideal, Cert.Frames.kernel3, Cert.Frames.kernel3Ideal, Cert.Frames.reference3Ideal,
    Cert.Frames.preserves, Cert.Frames.preserves2, Cert.Eq2.algebraic, trivial, Cert.Eq3.algebraic⟩

end Cert.Proof

end
